-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S2047x2048 : Shape := ⟨2, ![2047, 2048]⟩
abbrev S_ : Shape := ⟨0, ![]⟩
abbrev S2048x2048 : Shape := ⟨2, ![2048, 2048]⟩
abbrev S256x2048 : Shape := ⟨2, ![256, 2048]⟩
abbrev S1024x2048 : Shape := ⟨2, ![1024, 2048]⟩
abbrev S256x1024 : Shape := ⟨2, ![256, 1024]⟩
abbrev S256x1 : Shape := ⟨2, ![256, 1]⟩
abbrev S256 : Shape := ⟨1, ![256]⟩
abbrev S256x2 : Shape := ⟨2, ![256, 2]⟩
abbrev S256x4 : Shape := ⟨2, ![256, 4]⟩
abbrev S256x8 : Shape := ⟨2, ![256, 8]⟩
abbrev S256x16 : Shape := ⟨2, ![256, 16]⟩
abbrev S256x32 : Shape := ⟨2, ![256, 32]⟩
abbrev S256x64 : Shape := ⟨2, ![256, 64]⟩
abbrev S256x128 : Shape := ⟨2, ![256, 128]⟩
abbrev S256x256 : Shape := ⟨2, ![256, 256]⟩
abbrev S256x512 : Shape := ⟨2, ![256, 512]⟩

abbrev nBuf : Space → Nat
  | .hbm => 10
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2047x2048, .f32⟩
  | .hbm, ⟨2, _⟩ => ⟨S2047x2048, .f32⟩
  | .hbm, ⟨3, _⟩ => ⟨S_, .i32⟩
  | .hbm, ⟨4, _⟩ => ⟨S_, .f32⟩
  | .hbm, ⟨5, _⟩ => ⟨S2048x2048, .f32⟩
  | .hbm, ⟨6, _⟩ => ⟨S_, .i32⟩
  | .hbm, ⟨7, _⟩ => ⟨S_, .f32⟩
  | .hbm, ⟨8, _⟩ => ⟨S2048x2048, .f32⟩
  | .hbm, ⟨9, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S2048x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x2048 : Shape := ⟨2, ![16384, 2048]⟩
abbrev S2047x2048 : Shape := ⟨2, ![2047, 2048]⟩
abbrev S_ : Shape := ⟨0, ![]⟩
abbrev S16384 : Shape := ⟨1, ![16384]⟩
abbrev S16384x1 : Shape := ⟨2, ![16384, 1]⟩
abbrev S1 : Shape := ⟨1, ![1]⟩
abbrev S1x1 : Shape := ⟨2, ![1, 1]⟩

abbrev nBuf : Space → Nat
  | .hbm => 689
  | .vmem => 0
  | .smem => 0
  | _ => 0

abbrev hbmTy0_0 (i : Nat) : BufTy := match i % 128 with
  | 0 => ⟨S16384x2048, .f32⟩
  | 1 => ⟨S2047x2048, .f32⟩
  | 2 => ⟨S2047x2048, .f32⟩
  | 3 => ⟨S_, .i32⟩
  | 4 => ⟨S16384, .i32⟩
  | 5 => ⟨S_, .f32⟩
  | 6 => ⟨S16384x2048, .f32⟩
  | 7 => ⟨S_, .i32⟩
  | 8 => ⟨S16384, .i32⟩
  | 9 => ⟨S16384, .i1⟩
  | 10 => ⟨S_, .i32⟩
  | 11 => ⟨S16384, .i32⟩
  | 12 => ⟨S16384, .i32⟩
  | 13 => ⟨S16384, .i32⟩
  | 14 => ⟨S16384x1, .i32⟩
  | 15 => ⟨S1, .i32⟩
  | 16 => ⟨S_, .i32⟩
  | 17 => ⟨S16384x1, .i32⟩
  | 18 => ⟨S16384x1, .i1⟩
  | 19 => ⟨S1x1, .i32⟩
  | 20 => ⟨S16384x1, .i32⟩
  | 21 => ⟨S16384x1, .i1⟩
  | 22 => ⟨S16384x1, .i1⟩
  | 23 => ⟨S_, .i1⟩
  | 24 => ⟨S16384, .i1⟩
  | 25 => ⟨S16384x2048, .f32⟩
  | 26 => ⟨S16384x2048, .i1⟩
  | 27 => ⟨S_, .f32⟩
  | 28 => ⟨S16384x2048, .f32⟩
  | 29 => ⟨S16384x2048, .f32⟩
  | 30 => ⟨S16384, .f32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S1, .i32⟩
  | 40 => ⟨S_, .i32⟩
  | 41 => ⟨S16384x1, .i32⟩
  | 42 => ⟨S16384x1, .i1⟩
  | 43 => ⟨S1x1, .i32⟩
  | 44 => ⟨S16384x1, .i32⟩
  | 45 => ⟨S16384x1, .i1⟩
  | 46 => ⟨S16384x1, .i1⟩
  | 47 => ⟨S_, .i1⟩
  | 48 => ⟨S16384, .i1⟩
  | 49 => ⟨S16384x2048, .f32⟩
  | 50 => ⟨S16384x2048, .i1⟩
  | 51 => ⟨S_, .f32⟩
  | 52 => ⟨S16384x2048, .f32⟩
  | 53 => ⟨S16384x2048, .f32⟩
  | 54 => ⟨S16384x1, .f32⟩
  | 55 => ⟨S16384x2048, .f32⟩
  | 56 => ⟨S16384x2048, .f32⟩
  | 57 => ⟨S16384x2048, .f32⟩
  | 58 => ⟨S_, .f32⟩
  | 59 => ⟨S16384, .f32⟩
  | 60 => ⟨S16384, .i1⟩
  | 61 => ⟨S16384, .i32⟩
  | 62 => ⟨S_, .i32⟩
  | 63 => ⟨S16384, .i32⟩
  | 64 => ⟨S16384, .i32⟩
  | 65 => ⟨S_, .i32⟩
  | 66 => ⟨S16384, .i32⟩
  | 67 => ⟨S16384, .i32⟩
  | 68 => ⟨S16384, .i32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S16384x1, .i32⟩
  | 77 => ⟨S1, .i32⟩
  | 78 => ⟨S_, .i32⟩
  | 79 => ⟨S16384x1, .i32⟩
  | 80 => ⟨S16384x1, .i1⟩
  | 81 => ⟨S1x1, .i32⟩
  | 82 => ⟨S16384x1, .i32⟩
  | 83 => ⟨S16384x1, .i1⟩
  | 84 => ⟨S16384x1, .i1⟩
  | 85 => ⟨S_, .i1⟩
  | 86 => ⟨S16384, .i1⟩
  | 87 => ⟨S16384x2048, .f32⟩
  | 88 => ⟨S16384x2048, .i1⟩
  | 89 => ⟨S_, .f32⟩
  | 90 => ⟨S16384x2048, .f32⟩
  | 91 => ⟨S16384x2048, .f32⟩
  | 92 => ⟨S16384, .f32⟩
  | 93 => ⟨S_, .i32⟩
  | 94 => ⟨S16384, .i32⟩
  | 95 => ⟨S16384, .i1⟩
  | 96 => ⟨S_, .i32⟩
  | 97 => ⟨S16384, .i32⟩
  | 98 => ⟨S16384, .i32⟩
  | 99 => ⟨S16384, .i32⟩
  | 100 => ⟨S16384x1, .i32⟩
  | 101 => ⟨S1, .i32⟩
  | 102 => ⟨S_, .i32⟩
  | 103 => ⟨S16384x1, .i32⟩
  | 104 => ⟨S16384x1, .i1⟩
  | 105 => ⟨S1x1, .i32⟩
  | 106 => ⟨S16384x1, .i32⟩
  | 107 => ⟨S16384x1, .i1⟩
  | 108 => ⟨S16384x1, .i1⟩
  | 109 => ⟨S_, .i1⟩
  | 110 => ⟨S16384, .i1⟩
  | 111 => ⟨S16384x2048, .f32⟩
  | 112 => ⟨S16384x2048, .i1⟩
  | 113 => ⟨S_, .f32⟩
  | 114 => ⟨S16384x2048, .f32⟩
  | 115 => ⟨S16384x2048, .f32⟩
  | 116 => ⟨S16384x1, .f32⟩
  | 117 => ⟨S16384x2048, .f32⟩
  | 118 => ⟨S16384x2048, .f32⟩
  | 119 => ⟨S16384x2048, .f32⟩
  | 120 => ⟨S_, .f32⟩
  | 121 => ⟨S16384, .f32⟩
  | 122 => ⟨S16384, .i1⟩
  | 123 => ⟨S16384, .i32⟩
  | 124 => ⟨S_, .i32⟩
  | 125 => ⟨S16384, .i32⟩
  | 126 => ⟨S16384, .i32⟩
  | 127 => ⟨S_, .i32⟩
  | _ => ⟨S16384x2048, .f32⟩

abbrev hbmTy0_1 (i : Nat) : BufTy := match i % 128 with
  | 0 => ⟨S16384, .i32⟩
  | 1 => ⟨S16384, .i32⟩
  | 2 => ⟨S16384, .i32⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S1, .i32⟩
  | 12 => ⟨S_, .i32⟩
  | 13 => ⟨S16384x1, .i32⟩
  | 14 => ⟨S16384x1, .i1⟩
  | 15 => ⟨S1x1, .i32⟩
  | 16 => ⟨S16384x1, .i32⟩
  | 17 => ⟨S16384x1, .i1⟩
  | 18 => ⟨S16384x1, .i1⟩
  | 19 => ⟨S_, .i1⟩
  | 20 => ⟨S16384, .i1⟩
  | 21 => ⟨S16384x2048, .f32⟩
  | 22 => ⟨S16384x2048, .i1⟩
  | 23 => ⟨S_, .f32⟩
  | 24 => ⟨S16384x2048, .f32⟩
  | 25 => ⟨S16384x2048, .f32⟩
  | 26 => ⟨S16384, .f32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S1, .i32⟩
  | 36 => ⟨S_, .i32⟩
  | 37 => ⟨S16384x1, .i32⟩
  | 38 => ⟨S16384x1, .i1⟩
  | 39 => ⟨S1x1, .i32⟩
  | 40 => ⟨S16384x1, .i32⟩
  | 41 => ⟨S16384x1, .i1⟩
  | 42 => ⟨S16384x1, .i1⟩
  | 43 => ⟨S_, .i1⟩
  | 44 => ⟨S16384, .i1⟩
  | 45 => ⟨S16384x2048, .f32⟩
  | 46 => ⟨S16384x2048, .i1⟩
  | 47 => ⟨S_, .f32⟩
  | 48 => ⟨S16384x2048, .f32⟩
  | 49 => ⟨S16384x2048, .f32⟩
  | 50 => ⟨S16384x1, .f32⟩
  | 51 => ⟨S16384x2048, .f32⟩
  | 52 => ⟨S16384x2048, .f32⟩
  | 53 => ⟨S16384x2048, .f32⟩
  | 54 => ⟨S_, .f32⟩
  | 55 => ⟨S16384, .f32⟩
  | 56 => ⟨S16384, .i1⟩
  | 57 => ⟨S16384, .i32⟩
  | 58 => ⟨S_, .i32⟩
  | 59 => ⟨S16384, .i32⟩
  | 60 => ⟨S16384, .i32⟩
  | 61 => ⟨S_, .i32⟩
  | 62 => ⟨S16384, .i32⟩
  | 63 => ⟨S16384, .i32⟩
  | 64 => ⟨S16384, .i32⟩
  | 65 => ⟨S_, .i32⟩
  | 66 => ⟨S16384, .i32⟩
  | 67 => ⟨S16384, .i1⟩
  | 68 => ⟨S_, .i32⟩
  | 69 => ⟨S16384, .i32⟩
  | 70 => ⟨S16384, .i32⟩
  | 71 => ⟨S16384, .i32⟩
  | 72 => ⟨S16384x1, .i32⟩
  | 73 => ⟨S1, .i32⟩
  | 74 => ⟨S_, .i32⟩
  | 75 => ⟨S16384x1, .i32⟩
  | 76 => ⟨S16384x1, .i1⟩
  | 77 => ⟨S1x1, .i32⟩
  | 78 => ⟨S16384x1, .i32⟩
  | 79 => ⟨S16384x1, .i1⟩
  | 80 => ⟨S16384x1, .i1⟩
  | 81 => ⟨S_, .i1⟩
  | 82 => ⟨S16384, .i1⟩
  | 83 => ⟨S16384x2048, .f32⟩
  | 84 => ⟨S16384x2048, .i1⟩
  | 85 => ⟨S_, .f32⟩
  | 86 => ⟨S16384x2048, .f32⟩
  | 87 => ⟨S16384x2048, .f32⟩
  | 88 => ⟨S16384, .f32⟩
  | 89 => ⟨S_, .i32⟩
  | 90 => ⟨S16384, .i32⟩
  | 91 => ⟨S16384, .i1⟩
  | 92 => ⟨S_, .i32⟩
  | 93 => ⟨S16384, .i32⟩
  | 94 => ⟨S16384, .i32⟩
  | 95 => ⟨S16384, .i32⟩
  | 96 => ⟨S16384x1, .i32⟩
  | 97 => ⟨S1, .i32⟩
  | 98 => ⟨S_, .i32⟩
  | 99 => ⟨S16384x1, .i32⟩
  | 100 => ⟨S16384x1, .i1⟩
  | 101 => ⟨S1x1, .i32⟩
  | 102 => ⟨S16384x1, .i32⟩
  | 103 => ⟨S16384x1, .i1⟩
  | 104 => ⟨S16384x1, .i1⟩
  | 105 => ⟨S_, .i1⟩
  | 106 => ⟨S16384, .i1⟩
  | 107 => ⟨S16384x2048, .f32⟩
  | 108 => ⟨S16384x2048, .i1⟩
  | 109 => ⟨S_, .f32⟩
  | 110 => ⟨S16384x2048, .f32⟩
  | 111 => ⟨S16384x2048, .f32⟩
  | 112 => ⟨S16384x1, .f32⟩
  | 113 => ⟨S16384x2048, .f32⟩
  | 114 => ⟨S16384x2048, .f32⟩
  | 115 => ⟨S16384x2048, .f32⟩
  | 116 => ⟨S_, .f32⟩
  | 117 => ⟨S16384, .f32⟩
  | 118 => ⟨S16384, .i1⟩
  | 119 => ⟨S16384, .i32⟩
  | 120 => ⟨S_, .i32⟩
  | 121 => ⟨S16384, .i32⟩
  | 122 => ⟨S16384, .i32⟩
  | 123 => ⟨S_, .i32⟩
  | 124 => ⟨S16384, .i32⟩
  | 125 => ⟨S16384, .i32⟩
  | 126 => ⟨S16384, .i32⟩
  | 127 => ⟨S_, .i32⟩
  | _ => ⟨S16384x2048, .f32⟩

abbrev hbmTy0_2 (i : Nat) : BufTy := match i % 128 with
  | 0 => ⟨S16384, .i32⟩
  | 1 => ⟨S16384, .i1⟩
  | 2 => ⟨S_, .i32⟩
  | 3 => ⟨S16384, .i32⟩
  | 4 => ⟨S16384, .i32⟩
  | 5 => ⟨S16384, .i32⟩
  | 6 => ⟨S16384x1, .i32⟩
  | 7 => ⟨S1, .i32⟩
  | 8 => ⟨S_, .i32⟩
  | 9 => ⟨S16384x1, .i32⟩
  | 10 => ⟨S16384x1, .i1⟩
  | 11 => ⟨S1x1, .i32⟩
  | 12 => ⟨S16384x1, .i32⟩
  | 13 => ⟨S16384x1, .i1⟩
  | 14 => ⟨S16384x1, .i1⟩
  | 15 => ⟨S_, .i1⟩
  | 16 => ⟨S16384, .i1⟩
  | 17 => ⟨S16384x2048, .f32⟩
  | 18 => ⟨S16384x2048, .i1⟩
  | 19 => ⟨S_, .f32⟩
  | 20 => ⟨S16384x2048, .f32⟩
  | 21 => ⟨S16384x2048, .f32⟩
  | 22 => ⟨S16384, .f32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S1, .i32⟩
  | 32 => ⟨S_, .i32⟩
  | 33 => ⟨S16384x1, .i32⟩
  | 34 => ⟨S16384x1, .i1⟩
  | 35 => ⟨S1x1, .i32⟩
  | 36 => ⟨S16384x1, .i32⟩
  | 37 => ⟨S16384x1, .i1⟩
  | 38 => ⟨S16384x1, .i1⟩
  | 39 => ⟨S_, .i1⟩
  | 40 => ⟨S16384, .i1⟩
  | 41 => ⟨S16384x2048, .f32⟩
  | 42 => ⟨S16384x2048, .i1⟩
  | 43 => ⟨S_, .f32⟩
  | 44 => ⟨S16384x2048, .f32⟩
  | 45 => ⟨S16384x2048, .f32⟩
  | 46 => ⟨S16384x1, .f32⟩
  | 47 => ⟨S16384x2048, .f32⟩
  | 48 => ⟨S16384x2048, .f32⟩
  | 49 => ⟨S16384x2048, .f32⟩
  | 50 => ⟨S_, .f32⟩
  | 51 => ⟨S16384, .f32⟩
  | 52 => ⟨S16384, .i1⟩
  | 53 => ⟨S16384, .i32⟩
  | 54 => ⟨S_, .i32⟩
  | 55 => ⟨S16384, .i32⟩
  | 56 => ⟨S16384, .i32⟩
  | 57 => ⟨S_, .i32⟩
  | 58 => ⟨S16384, .i32⟩
  | 59 => ⟨S16384, .i32⟩
  | 60 => ⟨S16384, .i32⟩
  | 61 => ⟨S_, .i32⟩
  | 62 => ⟨S16384, .i32⟩
  | 63 => ⟨S16384, .i1⟩
  | 64 => ⟨S_, .i32⟩
  | 65 => ⟨S16384, .i32⟩
  | 66 => ⟨S16384, .i32⟩
  | 67 => ⟨S16384, .i32⟩
  | 68 => ⟨S16384x1, .i32⟩
  | 69 => ⟨S1, .i32⟩
  | 70 => ⟨S_, .i32⟩
  | 71 => ⟨S16384x1, .i32⟩
  | 72 => ⟨S16384x1, .i1⟩
  | 73 => ⟨S1x1, .i32⟩
  | 74 => ⟨S16384x1, .i32⟩
  | 75 => ⟨S16384x1, .i1⟩
  | 76 => ⟨S16384x1, .i1⟩
  | 77 => ⟨S_, .i1⟩
  | 78 => ⟨S16384, .i1⟩
  | 79 => ⟨S16384x2048, .f32⟩
  | 80 => ⟨S16384x2048, .i1⟩
  | 81 => ⟨S_, .f32⟩
  | 82 => ⟨S16384x2048, .f32⟩
  | 83 => ⟨S16384x2048, .f32⟩
  | 84 => ⟨S16384, .f32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S1, .i32⟩
  | 94 => ⟨S_, .i32⟩
  | 95 => ⟨S16384x1, .i32⟩
  | 96 => ⟨S16384x1, .i1⟩
  | 97 => ⟨S1x1, .i32⟩
  | 98 => ⟨S16384x1, .i32⟩
  | 99 => ⟨S16384x1, .i1⟩
  | 100 => ⟨S16384x1, .i1⟩
  | 101 => ⟨S_, .i1⟩
  | 102 => ⟨S16384, .i1⟩
  | 103 => ⟨S16384x2048, .f32⟩
  | 104 => ⟨S16384x2048, .i1⟩
  | 105 => ⟨S_, .f32⟩
  | 106 => ⟨S16384x2048, .f32⟩
  | 107 => ⟨S16384x2048, .f32⟩
  | 108 => ⟨S16384x1, .f32⟩
  | 109 => ⟨S16384x2048, .f32⟩
  | 110 => ⟨S16384x2048, .f32⟩
  | 111 => ⟨S16384x2048, .f32⟩
  | 112 => ⟨S_, .f32⟩
  | 113 => ⟨S16384, .f32⟩
  | 114 => ⟨S16384, .i1⟩
  | 115 => ⟨S16384, .i32⟩
  | 116 => ⟨S_, .i32⟩
  | 117 => ⟨S16384, .i32⟩
  | 118 => ⟨S16384, .i32⟩
  | 119 => ⟨S_, .i32⟩
  | 120 => ⟨S16384, .i32⟩
  | 121 => ⟨S16384, .i32⟩
  | 122 => ⟨S16384, .i32⟩
  | 123 => ⟨S_, .i32⟩
  | 124 => ⟨S16384, .i32⟩
  | 125 => ⟨S16384, .i1⟩
  | 126 => ⟨S_, .i32⟩
  | 127 => ⟨S16384, .i32⟩
  | _ => ⟨S16384x2048, .f32⟩

abbrev hbmTy0_3 (i : Nat) : BufTy := match i % 128 with
  | 0 => ⟨S16384, .i32⟩
  | 1 => ⟨S16384, .i32⟩
  | 2 => ⟨S16384x1, .i32⟩
  | 3 => ⟨S1, .i32⟩
  | 4 => ⟨S_, .i32⟩
  | 5 => ⟨S16384x1, .i32⟩
  | 6 => ⟨S16384x1, .i1⟩
  | 7 => ⟨S1x1, .i32⟩
  | 8 => ⟨S16384x1, .i32⟩
  | 9 => ⟨S16384x1, .i1⟩
  | 10 => ⟨S16384x1, .i1⟩
  | 11 => ⟨S_, .i1⟩
  | 12 => ⟨S16384, .i1⟩
  | 13 => ⟨S16384x2048, .f32⟩
  | 14 => ⟨S16384x2048, .i1⟩
  | 15 => ⟨S_, .f32⟩
  | 16 => ⟨S16384x2048, .f32⟩
  | 17 => ⟨S16384x2048, .f32⟩
  | 18 => ⟨S16384, .f32⟩
  | 19 => ⟨S_, .i32⟩
  | 20 => ⟨S16384, .i32⟩
  | 21 => ⟨S16384, .i1⟩
  | 22 => ⟨S_, .i32⟩
  | 23 => ⟨S16384, .i32⟩
  | 24 => ⟨S16384, .i32⟩
  | 25 => ⟨S16384, .i32⟩
  | 26 => ⟨S16384x1, .i32⟩
  | 27 => ⟨S1, .i32⟩
  | 28 => ⟨S_, .i32⟩
  | 29 => ⟨S16384x1, .i32⟩
  | 30 => ⟨S16384x1, .i1⟩
  | 31 => ⟨S1x1, .i32⟩
  | 32 => ⟨S16384x1, .i32⟩
  | 33 => ⟨S16384x1, .i1⟩
  | 34 => ⟨S16384x1, .i1⟩
  | 35 => ⟨S_, .i1⟩
  | 36 => ⟨S16384, .i1⟩
  | 37 => ⟨S16384x2048, .f32⟩
  | 38 => ⟨S16384x2048, .i1⟩
  | 39 => ⟨S_, .f32⟩
  | 40 => ⟨S16384x2048, .f32⟩
  | 41 => ⟨S16384x2048, .f32⟩
  | 42 => ⟨S16384x1, .f32⟩
  | 43 => ⟨S16384x2048, .f32⟩
  | 44 => ⟨S16384x2048, .f32⟩
  | 45 => ⟨S16384x2048, .f32⟩
  | 46 => ⟨S_, .f32⟩
  | 47 => ⟨S16384, .f32⟩
  | 48 => ⟨S16384, .i1⟩
  | 49 => ⟨S16384, .i32⟩
  | 50 => ⟨S_, .i32⟩
  | 51 => ⟨S16384, .i32⟩
  | 52 => ⟨S16384, .i32⟩
  | 53 => ⟨S_, .i32⟩
  | 54 => ⟨S16384, .i32⟩
  | 55 => ⟨S16384, .i32⟩
  | 56 => ⟨S16384, .i32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S1, .i32⟩
  | 66 => ⟨S_, .i32⟩
  | 67 => ⟨S16384x1, .i32⟩
  | 68 => ⟨S16384x1, .i1⟩
  | 69 => ⟨S1x1, .i32⟩
  | 70 => ⟨S16384x1, .i32⟩
  | 71 => ⟨S16384x1, .i1⟩
  | 72 => ⟨S16384x1, .i1⟩
  | 73 => ⟨S_, .i1⟩
  | 74 => ⟨S16384, .i1⟩
  | 75 => ⟨S16384x2048, .f32⟩
  | 76 => ⟨S16384x2048, .i1⟩
  | 77 => ⟨S_, .f32⟩
  | 78 => ⟨S16384x2048, .f32⟩
  | 79 => ⟨S16384x2048, .f32⟩
  | 80 => ⟨S16384, .f32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x2048, .f32⟩
  | 100 => ⟨S16384x2048, .i1⟩
  | 101 => ⟨S_, .f32⟩
  | 102 => ⟨S16384x2048, .f32⟩
  | 103 => ⟨S16384x2048, .f32⟩
  | 104 => ⟨S16384x1, .f32⟩
  | 105 => ⟨S16384x2048, .f32⟩
  | 106 => ⟨S16384x2048, .f32⟩
  | 107 => ⟨S16384x2048, .f32⟩
  | 108 => ⟨S_, .f32⟩
  | 109 => ⟨S16384, .f32⟩
  | 110 => ⟨S16384, .i1⟩
  | 111 => ⟨S16384, .i32⟩
  | 112 => ⟨S_, .i32⟩
  | 113 => ⟨S16384, .i32⟩
  | 114 => ⟨S16384, .i32⟩
  | 115 => ⟨S_, .i32⟩
  | 116 => ⟨S16384, .i32⟩
  | 117 => ⟨S16384, .i32⟩
  | 118 => ⟨S16384, .i32⟩
  | 119 => ⟨S_, .i32⟩
  | 120 => ⟨S16384, .i32⟩
  | 121 => ⟨S16384, .i1⟩
  | 122 => ⟨S_, .i32⟩
  | 123 => ⟨S16384, .i32⟩
  | 124 => ⟨S16384, .i32⟩
  | 125 => ⟨S16384, .i32⟩
  | 126 => ⟨S16384x1, .i32⟩
  | 127 => ⟨S1, .i32⟩
  | _ => ⟨S16384x2048, .f32⟩

abbrev hbmTy0_4 (i : Nat) : BufTy := match i % 128 with
  | 0 => ⟨S_, .i32⟩
  | 1 => ⟨S16384x1, .i32⟩
  | 2 => ⟨S16384x1, .i1⟩
  | 3 => ⟨S1x1, .i32⟩
  | 4 => ⟨S16384x1, .i32⟩
  | 5 => ⟨S16384x1, .i1⟩
  | 6 => ⟨S16384x1, .i1⟩
  | 7 => ⟨S_, .i1⟩
  | 8 => ⟨S16384, .i1⟩
  | 9 => ⟨S16384x2048, .f32⟩
  | 10 => ⟨S16384x2048, .i1⟩
  | 11 => ⟨S_, .f32⟩
  | 12 => ⟨S16384x2048, .f32⟩
  | 13 => ⟨S16384x2048, .f32⟩
  | 14 => ⟨S16384, .f32⟩
  | 15 => ⟨S_, .i32⟩
  | 16 => ⟨S16384, .i32⟩
  | 17 => ⟨S16384, .i1⟩
  | 18 => ⟨S_, .i32⟩
  | 19 => ⟨S16384, .i32⟩
  | 20 => ⟨S16384, .i32⟩
  | 21 => ⟨S16384, .i32⟩
  | 22 => ⟨S16384x1, .i32⟩
  | 23 => ⟨S1, .i32⟩
  | 24 => ⟨S_, .i32⟩
  | 25 => ⟨S16384x1, .i32⟩
  | 26 => ⟨S16384x1, .i1⟩
  | 27 => ⟨S1x1, .i32⟩
  | 28 => ⟨S16384x1, .i32⟩
  | 29 => ⟨S16384x1, .i1⟩
  | 30 => ⟨S16384x1, .i1⟩
  | 31 => ⟨S_, .i1⟩
  | 32 => ⟨S16384, .i1⟩
  | 33 => ⟨S16384x2048, .f32⟩
  | 34 => ⟨S16384x2048, .i1⟩
  | 35 => ⟨S_, .f32⟩
  | 36 => ⟨S16384x2048, .f32⟩
  | 37 => ⟨S16384x2048, .f32⟩
  | 38 => ⟨S16384x1, .f32⟩
  | 39 => ⟨S16384x2048, .f32⟩
  | 40 => ⟨S16384x2048, .f32⟩
  | 41 => ⟨S16384x2048, .f32⟩
  | 42 => ⟨S_, .f32⟩
  | 43 => ⟨S16384, .f32⟩
  | 44 => ⟨S16384, .i1⟩
  | 45 => ⟨S16384, .i32⟩
  | 46 => ⟨S_, .i32⟩
  | 47 => ⟨S16384, .i32⟩
  | 48 => ⟨S16384, .i32⟩
  | 49 => ⟨S_, .i32⟩
  | 50 => ⟨S16384, .i32⟩
  | 51 => ⟨S16384, .i32⟩
  | 52 => ⟨S16384, .i32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S1, .i32⟩
  | 62 => ⟨S_, .i32⟩
  | 63 => ⟨S16384x1, .i32⟩
  | 64 => ⟨S16384x1, .i1⟩
  | 65 => ⟨S1x1, .i32⟩
  | 66 => ⟨S16384x1, .i32⟩
  | 67 => ⟨S16384x1, .i1⟩
  | 68 => ⟨S16384x1, .i1⟩
  | 69 => ⟨S_, .i1⟩
  | 70 => ⟨S16384, .i1⟩
  | 71 => ⟨S16384x2048, .f32⟩
  | 72 => ⟨S16384x2048, .i1⟩
  | 73 => ⟨S_, .f32⟩
  | 74 => ⟨S16384x2048, .f32⟩
  | 75 => ⟨S16384x2048, .f32⟩
  | 76 => ⟨S16384, .f32⟩
  | 77 => ⟨S_, .i32⟩
  | 78 => ⟨S16384, .i32⟩
  | 79 => ⟨S16384, .i1⟩
  | 80 => ⟨S_, .i32⟩
  | 81 => ⟨S16384, .i32⟩
  | 82 => ⟨S16384, .i32⟩
  | 83 => ⟨S16384, .i32⟩
  | 84 => ⟨S16384x1, .i32⟩
  | 85 => ⟨S1, .i32⟩
  | 86 => ⟨S_, .i32⟩
  | 87 => ⟨S16384x1, .i32⟩
  | 88 => ⟨S16384x1, .i1⟩
  | 89 => ⟨S1x1, .i32⟩
  | 90 => ⟨S16384x1, .i32⟩
  | 91 => ⟨S16384x1, .i1⟩
  | 92 => ⟨S16384x1, .i1⟩
  | 93 => ⟨S_, .i1⟩
  | 94 => ⟨S16384, .i1⟩
  | 95 => ⟨S16384x2048, .f32⟩
  | 96 => ⟨S16384x2048, .i1⟩
  | 97 => ⟨S_, .f32⟩
  | 98 => ⟨S16384x2048, .f32⟩
  | 99 => ⟨S16384x2048, .f32⟩
  | 100 => ⟨S16384x1, .f32⟩
  | 101 => ⟨S16384x2048, .f32⟩
  | 102 => ⟨S16384x2048, .f32⟩
  | 103 => ⟨S16384x2048, .f32⟩
  | 104 => ⟨S_, .f32⟩
  | 105 => ⟨S16384, .f32⟩
  | 106 => ⟨S16384, .i1⟩
  | 107 => ⟨S16384, .i32⟩
  | 108 => ⟨S_, .i32⟩
  | 109 => ⟨S16384, .i32⟩
  | 110 => ⟨S16384, .i32⟩
  | 111 => ⟨S_, .i32⟩
  | 112 => ⟨S16384, .i32⟩
  | 113 => ⟨S16384, .i32⟩
  | 114 => ⟨S16384, .i32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S1, .i32⟩
  | 124 => ⟨S_, .i32⟩
  | 125 => ⟨S16384x1, .i32⟩
  | 126 => ⟨S16384x1, .i1⟩
  | 127 => ⟨S1x1, .i32⟩
  | _ => ⟨S16384x2048, .f32⟩

abbrev hbmTy0_5 (i : Nat) : BufTy := match i % 128 with
  | 0 => ⟨S16384x1, .i32⟩
  | 1 => ⟨S16384x1, .i1⟩
  | 2 => ⟨S16384x1, .i1⟩
  | 3 => ⟨S_, .i1⟩
  | 4 => ⟨S16384, .i1⟩
  | 5 => ⟨S16384x2048, .f32⟩
  | 6 => ⟨S16384x2048, .i1⟩
  | 7 => ⟨S_, .f32⟩
  | 8 => ⟨S16384x2048, .f32⟩
  | 9 => ⟨S16384x2048, .f32⟩
  | 10 => ⟨S16384, .f32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S16384x1, .i32⟩
  | 19 => ⟨S1, .i32⟩
  | 20 => ⟨S_, .i32⟩
  | 21 => ⟨S16384x1, .i32⟩
  | 22 => ⟨S16384x1, .i1⟩
  | 23 => ⟨S1x1, .i32⟩
  | 24 => ⟨S16384x1, .i32⟩
  | 25 => ⟨S16384x1, .i1⟩
  | 26 => ⟨S16384x1, .i1⟩
  | 27 => ⟨S_, .i1⟩
  | 28 => ⟨S16384, .i1⟩
  | 29 => ⟨S16384x2048, .f32⟩
  | 30 => ⟨S16384x2048, .i1⟩
  | 31 => ⟨S_, .f32⟩
  | 32 => ⟨S16384x2048, .f32⟩
  | 33 => ⟨S16384x2048, .f32⟩
  | 34 => ⟨S16384x1, .f32⟩
  | 35 => ⟨S16384x2048, .f32⟩
  | 36 => ⟨S16384x2048, .f32⟩
  | 37 => ⟨S16384x2048, .f32⟩
  | 38 => ⟨S_, .f32⟩
  | 39 => ⟨S16384, .f32⟩
  | 40 => ⟨S16384, .i1⟩
  | 41 => ⟨S16384, .i32⟩
  | 42 => ⟨S_, .i32⟩
  | 43 => ⟨S16384, .i32⟩
  | 44 => ⟨S16384, .i32⟩
  | 45 => ⟨S_, .i32⟩
  | 46 => ⟨S16384, .i32⟩
  | 47 => ⟨S16384, .i32⟩
  | 48 => ⟨S16384, .i32⟩
  | _ => ⟨S16384x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_v3 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_cst_0 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_c_1 : Ref sig .tc := ⟨.hbm, 62, rfl⟩
abbrev main_v12 : Ref sig .tc := ⟨.hbm, 63, rfl⟩
abbrev main_v13 : Ref sig .tc := ⟨.hbm, 64, rfl⟩
abbrev main_c_2 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v17 : Ref sig .tc := ⟨.hbm, 91, rfl⟩
abbrev main_v18 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v19 : Ref sig .tc := ⟨.hbm, 115, rfl⟩
abbrev main_v20 : Ref sig .tc := ⟨.hbm, 116, rfl⟩
abbrev main_v21 : Ref sig .tc := ⟨.hbm, 117, rfl⟩
abbrev main_v22 : Ref sig .tc := ⟨.hbm, 118, rfl⟩
abbrev main_v23 : Ref sig .tc := ⟨.hbm, 119, rfl⟩
abbrev main_cst_3 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_c_4 : Ref sig .tc := ⟨.hbm, 124, rfl⟩
abbrev main_v27 : Ref sig .tc := ⟨.hbm, 125, rfl⟩
abbrev main_v28 : Ref sig .tc := ⟨.hbm, 126, rfl⟩
abbrev main_c_5 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_call4_c : Ref sig .tc := ⟨.hbm, 131, rfl⟩
abbrev main_call4_v0 : Ref sig .tc := ⟨.hbm, 132, rfl⟩
abbrev main_call4_v1 : Ref sig .tc := ⟨.hbm, 133, rfl⟩
abbrev main_call4_c_0 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_v5 : Ref sig .tc := ⟨.hbm, 138, rfl⟩
abbrev main_call4_c_1 : Ref sig .tc := ⟨.hbm, 139, rfl⟩
abbrev main_call4_c_2 : Ref sig .tc := ⟨.hbm, 140, rfl⟩
abbrev main_call4_v6 : Ref sig .tc := ⟨.hbm, 141, rfl⟩
abbrev main_call4_v7 : Ref sig .tc := ⟨.hbm, 142, rfl⟩
abbrev main_call4_v8 : Ref sig .tc := ⟨.hbm, 143, rfl⟩
abbrev main_call4_v9 : Ref sig .tc := ⟨.hbm, 144, rfl⟩
abbrev main_call4_v10 : Ref sig .tc := ⟨.hbm, 145, rfl⟩
abbrev main_call4_v11 : Ref sig .tc := ⟨.hbm, 146, rfl⟩
abbrev main_call4_c_3 : Ref sig .tc := ⟨.hbm, 147, rfl⟩
abbrev main_call4_v12 : Ref sig .tc := ⟨.hbm, 148, rfl⟩
abbrev main_call4_v13 : Ref sig .tc := ⟨.hbm, 149, rfl⟩
abbrev main_call4_v14 : Ref sig .tc := ⟨.hbm, 150, rfl⟩
abbrev main_call4_cst : Ref sig .tc := ⟨.hbm, 151, rfl⟩
abbrev main_call4_v15 : Ref sig .tc := ⟨.hbm, 152, rfl⟩
abbrev main_v32 : Ref sig .tc := ⟨.hbm, 153, rfl⟩
abbrev main_v33 : Ref sig .tc := ⟨.hbm, 154, rfl⟩
abbrev main_call5_c : Ref sig .tc := ⟨.hbm, 155, rfl⟩
abbrev main_call5_v0 : Ref sig .tc := ⟨.hbm, 156, rfl⟩
abbrev main_call5_v1 : Ref sig .tc := ⟨.hbm, 157, rfl⟩
abbrev main_call5_c_0 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_call5_v5 : Ref sig .tc := ⟨.hbm, 162, rfl⟩
abbrev main_call5_c_1 : Ref sig .tc := ⟨.hbm, 163, rfl⟩
abbrev main_call5_c_2 : Ref sig .tc := ⟨.hbm, 164, rfl⟩
abbrev main_call5_v6 : Ref sig .tc := ⟨.hbm, 165, rfl⟩
abbrev main_call5_v7 : Ref sig .tc := ⟨.hbm, 166, rfl⟩
abbrev main_call5_v8 : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_c_3 : Ref sig .tc := ⟨.hbm, 171, rfl⟩
abbrev main_call5_v12 : Ref sig .tc := ⟨.hbm, 172, rfl⟩
abbrev main_call5_v13 : Ref sig .tc := ⟨.hbm, 173, rfl⟩
abbrev main_call5_v14 : Ref sig .tc := ⟨.hbm, 174, rfl⟩
abbrev main_call5_cst : Ref sig .tc := ⟨.hbm, 175, rfl⟩
abbrev main_call5_v15 : Ref sig .tc := ⟨.hbm, 176, rfl⟩
abbrev main_v34 : Ref sig .tc := ⟨.hbm, 177, rfl⟩
abbrev main_v35 : Ref sig .tc := ⟨.hbm, 178, rfl⟩
abbrev main_v36 : Ref sig .tc := ⟨.hbm, 179, rfl⟩
abbrev main_v37 : Ref sig .tc := ⟨.hbm, 180, rfl⟩
abbrev main_v38 : Ref sig .tc := ⟨.hbm, 181, rfl⟩
abbrev main_cst_6 : Ref sig .tc := ⟨.hbm, 182, rfl⟩
abbrev main_v39 : Ref sig .tc := ⟨.hbm, 183, rfl⟩
abbrev main_v40 : Ref sig .tc := ⟨.hbm, 184, rfl⟩
abbrev main_v41 : Ref sig .tc := ⟨.hbm, 185, rfl⟩
abbrev main_c_7 : Ref sig .tc := ⟨.hbm, 186, rfl⟩
abbrev main_v42 : Ref sig .tc := ⟨.hbm, 187, rfl⟩
abbrev main_v43 : Ref sig .tc := ⟨.hbm, 188, rfl⟩
abbrev main_c_8 : Ref sig .tc := ⟨.hbm, 189, rfl⟩
abbrev main_v44 : Ref sig .tc := ⟨.hbm, 190, rfl⟩
abbrev main_v45 : Ref sig .tc := ⟨.hbm, 191, rfl⟩
abbrev main_v46 : Ref sig .tc := ⟨.hbm, 192, rfl⟩
abbrev main_call6_c : Ref sig .tc := ⟨.hbm, 193, rfl⟩
abbrev main_call6_v0 : Ref sig .tc := ⟨.hbm, 194, rfl⟩
abbrev main_call6_v1 : Ref sig .tc := ⟨.hbm, 195, rfl⟩
abbrev main_call6_c_0 : Ref sig .tc := ⟨.hbm, 196, rfl⟩
abbrev main_call6_v2 : Ref sig .tc := ⟨.hbm, 197, rfl⟩
abbrev main_call6_v3 : Ref sig .tc := ⟨.hbm, 198, rfl⟩
abbrev main_call6_v4 : Ref sig .tc := ⟨.hbm, 199, rfl⟩
abbrev main_call6_v5 : Ref sig .tc := ⟨.hbm, 200, rfl⟩
abbrev main_call6_c_1 : Ref sig .tc := ⟨.hbm, 201, rfl⟩
abbrev main_call6_c_2 : Ref sig .tc := ⟨.hbm, 202, rfl⟩
abbrev main_call6_v6 : Ref sig .tc := ⟨.hbm, 203, rfl⟩
abbrev main_call6_v7 : Ref sig .tc := ⟨.hbm, 204, rfl⟩
abbrev main_call6_v8 : Ref sig .tc := ⟨.hbm, 205, rfl⟩
abbrev main_call6_v9 : Ref sig .tc := ⟨.hbm, 206, rfl⟩
abbrev main_call6_v10 : Ref sig .tc := ⟨.hbm, 207, rfl⟩
abbrev main_call6_v11 : Ref sig .tc := ⟨.hbm, 208, rfl⟩
abbrev main_call6_c_3 : Ref sig .tc := ⟨.hbm, 209, rfl⟩
abbrev main_call6_v12 : Ref sig .tc := ⟨.hbm, 210, rfl⟩
abbrev main_call6_v13 : Ref sig .tc := ⟨.hbm, 211, rfl⟩
abbrev main_call6_v14 : Ref sig .tc := ⟨.hbm, 212, rfl⟩
abbrev main_call6_cst : Ref sig .tc := ⟨.hbm, 213, rfl⟩
abbrev main_call6_v15 : Ref sig .tc := ⟨.hbm, 214, rfl⟩
abbrev main_v47 : Ref sig .tc := ⟨.hbm, 215, rfl⟩
abbrev main_v48 : Ref sig .tc := ⟨.hbm, 216, rfl⟩
abbrev main_call7_c : Ref sig .tc := ⟨.hbm, 217, rfl⟩
abbrev main_call7_v0 : Ref sig .tc := ⟨.hbm, 218, rfl⟩
abbrev main_call7_v1 : Ref sig .tc := ⟨.hbm, 219, rfl⟩
abbrev main_call7_c_0 : Ref sig .tc := ⟨.hbm, 220, rfl⟩
abbrev main_call7_v2 : Ref sig .tc := ⟨.hbm, 221, rfl⟩
abbrev main_call7_v3 : Ref sig .tc := ⟨.hbm, 222, rfl⟩
abbrev main_call7_v4 : Ref sig .tc := ⟨.hbm, 223, rfl⟩
abbrev main_call7_v5 : Ref sig .tc := ⟨.hbm, 224, rfl⟩
abbrev main_call7_c_1 : Ref sig .tc := ⟨.hbm, 225, rfl⟩
abbrev main_call7_c_2 : Ref sig .tc := ⟨.hbm, 226, rfl⟩
abbrev main_call7_v6 : Ref sig .tc := ⟨.hbm, 227, rfl⟩
abbrev main_call7_v7 : Ref sig .tc := ⟨.hbm, 228, rfl⟩
abbrev main_call7_v8 : Ref sig .tc := ⟨.hbm, 229, rfl⟩
abbrev main_call7_v9 : Ref sig .tc := ⟨.hbm, 230, rfl⟩
abbrev main_call7_v10 : Ref sig .tc := ⟨.hbm, 231, rfl⟩
abbrev main_call7_v11 : Ref sig .tc := ⟨.hbm, 232, rfl⟩
abbrev main_call7_c_3 : Ref sig .tc := ⟨.hbm, 233, rfl⟩
abbrev main_call7_v12 : Ref sig .tc := ⟨.hbm, 234, rfl⟩
abbrev main_call7_v13 : Ref sig .tc := ⟨.hbm, 235, rfl⟩
abbrev main_call7_v14 : Ref sig .tc := ⟨.hbm, 236, rfl⟩
abbrev main_call7_cst : Ref sig .tc := ⟨.hbm, 237, rfl⟩
abbrev main_call7_v15 : Ref sig .tc := ⟨.hbm, 238, rfl⟩
abbrev main_v49 : Ref sig .tc := ⟨.hbm, 239, rfl⟩
abbrev main_v50 : Ref sig .tc := ⟨.hbm, 240, rfl⟩
abbrev main_v51 : Ref sig .tc := ⟨.hbm, 241, rfl⟩
abbrev main_v52 : Ref sig .tc := ⟨.hbm, 242, rfl⟩
abbrev main_v53 : Ref sig .tc := ⟨.hbm, 243, rfl⟩
abbrev main_cst_9 : Ref sig .tc := ⟨.hbm, 244, rfl⟩
abbrev main_v54 : Ref sig .tc := ⟨.hbm, 245, rfl⟩
abbrev main_v55 : Ref sig .tc := ⟨.hbm, 246, rfl⟩
abbrev main_v56 : Ref sig .tc := ⟨.hbm, 247, rfl⟩
abbrev main_c_10 : Ref sig .tc := ⟨.hbm, 248, rfl⟩
abbrev main_v57 : Ref sig .tc := ⟨.hbm, 249, rfl⟩
abbrev main_v58 : Ref sig .tc := ⟨.hbm, 250, rfl⟩
abbrev main_c_11 : Ref sig .tc := ⟨.hbm, 251, rfl⟩
abbrev main_v59 : Ref sig .tc := ⟨.hbm, 252, rfl⟩
abbrev main_v60 : Ref sig .tc := ⟨.hbm, 253, rfl⟩
abbrev main_v61 : Ref sig .tc := ⟨.hbm, 254, rfl⟩
abbrev main_call8_c : Ref sig .tc := ⟨.hbm, 255, rfl⟩
abbrev main_call8_v0 : Ref sig .tc := ⟨.hbm, 256, rfl⟩
abbrev main_call8_v1 : Ref sig .tc := ⟨.hbm, 257, rfl⟩
abbrev main_call8_c_0 : Ref sig .tc := ⟨.hbm, 258, rfl⟩
abbrev main_call8_v2 : Ref sig .tc := ⟨.hbm, 259, rfl⟩
abbrev main_call8_v3 : Ref sig .tc := ⟨.hbm, 260, rfl⟩
abbrev main_call8_v4 : Ref sig .tc := ⟨.hbm, 261, rfl⟩
abbrev main_call8_v5 : Ref sig .tc := ⟨.hbm, 262, rfl⟩
abbrev main_call8_c_1 : Ref sig .tc := ⟨.hbm, 263, rfl⟩
abbrev main_call8_c_2 : Ref sig .tc := ⟨.hbm, 264, rfl⟩
abbrev main_call8_v6 : Ref sig .tc := ⟨.hbm, 265, rfl⟩
abbrev main_call8_v7 : Ref sig .tc := ⟨.hbm, 266, rfl⟩
abbrev main_call8_v8 : Ref sig .tc := ⟨.hbm, 267, rfl⟩
abbrev main_call8_v9 : Ref sig .tc := ⟨.hbm, 268, rfl⟩
abbrev main_call8_v10 : Ref sig .tc := ⟨.hbm, 269, rfl⟩
abbrev main_call8_v11 : Ref sig .tc := ⟨.hbm, 270, rfl⟩
abbrev main_call8_c_3 : Ref sig .tc := ⟨.hbm, 271, rfl⟩
abbrev main_call8_v12 : Ref sig .tc := ⟨.hbm, 272, rfl⟩
abbrev main_call8_v13 : Ref sig .tc := ⟨.hbm, 273, rfl⟩
abbrev main_call8_v14 : Ref sig .tc := ⟨.hbm, 274, rfl⟩
abbrev main_call8_cst : Ref sig .tc := ⟨.hbm, 275, rfl⟩
abbrev main_call8_v15 : Ref sig .tc := ⟨.hbm, 276, rfl⟩
abbrev main_v62 : Ref sig .tc := ⟨.hbm, 277, rfl⟩
abbrev main_v63 : Ref sig .tc := ⟨.hbm, 278, rfl⟩
abbrev main_call9_c : Ref sig .tc := ⟨.hbm, 279, rfl⟩
abbrev main_call9_v0 : Ref sig .tc := ⟨.hbm, 280, rfl⟩
abbrev main_call9_v1 : Ref sig .tc := ⟨.hbm, 281, rfl⟩
abbrev main_call9_c_0 : Ref sig .tc := ⟨.hbm, 282, rfl⟩
abbrev main_call9_v2 : Ref sig .tc := ⟨.hbm, 283, rfl⟩
abbrev main_call9_v3 : Ref sig .tc := ⟨.hbm, 284, rfl⟩
abbrev main_call9_v4 : Ref sig .tc := ⟨.hbm, 285, rfl⟩
abbrev main_call9_v5 : Ref sig .tc := ⟨.hbm, 286, rfl⟩
abbrev main_call9_c_1 : Ref sig .tc := ⟨.hbm, 287, rfl⟩
abbrev main_call9_c_2 : Ref sig .tc := ⟨.hbm, 288, rfl⟩
abbrev main_call9_v6 : Ref sig .tc := ⟨.hbm, 289, rfl⟩
abbrev main_call9_v7 : Ref sig .tc := ⟨.hbm, 290, rfl⟩
abbrev main_call9_v8 : Ref sig .tc := ⟨.hbm, 291, rfl⟩
abbrev main_call9_v9 : Ref sig .tc := ⟨.hbm, 292, rfl⟩
abbrev main_call9_v10 : Ref sig .tc := ⟨.hbm, 293, rfl⟩
abbrev main_call9_v11 : Ref sig .tc := ⟨.hbm, 294, rfl⟩
abbrev main_call9_c_3 : Ref sig .tc := ⟨.hbm, 295, rfl⟩
abbrev main_call9_v12 : Ref sig .tc := ⟨.hbm, 296, rfl⟩
abbrev main_call9_v13 : Ref sig .tc := ⟨.hbm, 297, rfl⟩
abbrev main_call9_v14 : Ref sig .tc := ⟨.hbm, 298, rfl⟩
abbrev main_call9_cst : Ref sig .tc := ⟨.hbm, 299, rfl⟩
abbrev main_call9_v15 : Ref sig .tc := ⟨.hbm, 300, rfl⟩
abbrev main_v64 : Ref sig .tc := ⟨.hbm, 301, rfl⟩
abbrev main_v65 : Ref sig .tc := ⟨.hbm, 302, rfl⟩
abbrev main_v66 : Ref sig .tc := ⟨.hbm, 303, rfl⟩
abbrev main_v67 : Ref sig .tc := ⟨.hbm, 304, rfl⟩
abbrev main_v68 : Ref sig .tc := ⟨.hbm, 305, rfl⟩
abbrev main_cst_12 : Ref sig .tc := ⟨.hbm, 306, rfl⟩
abbrev main_v69 : Ref sig .tc := ⟨.hbm, 307, rfl⟩
abbrev main_v70 : Ref sig .tc := ⟨.hbm, 308, rfl⟩
abbrev main_v71 : Ref sig .tc := ⟨.hbm, 309, rfl⟩
abbrev main_c_13 : Ref sig .tc := ⟨.hbm, 310, rfl⟩
abbrev main_v72 : Ref sig .tc := ⟨.hbm, 311, rfl⟩
abbrev main_v73 : Ref sig .tc := ⟨.hbm, 312, rfl⟩
abbrev main_c_14 : Ref sig .tc := ⟨.hbm, 313, rfl⟩
abbrev main_v74 : Ref sig .tc := ⟨.hbm, 314, rfl⟩
abbrev main_v75 : Ref sig .tc := ⟨.hbm, 315, rfl⟩
abbrev main_v76 : Ref sig .tc := ⟨.hbm, 316, rfl⟩
abbrev main_call10_c : Ref sig .tc := ⟨.hbm, 317, rfl⟩
abbrev main_call10_v0 : Ref sig .tc := ⟨.hbm, 318, rfl⟩
abbrev main_call10_v1 : Ref sig .tc := ⟨.hbm, 319, rfl⟩
abbrev main_call10_c_0 : Ref sig .tc := ⟨.hbm, 320, rfl⟩
abbrev main_call10_v2 : Ref sig .tc := ⟨.hbm, 321, rfl⟩
abbrev main_call10_v3 : Ref sig .tc := ⟨.hbm, 322, rfl⟩
abbrev main_call10_v4 : Ref sig .tc := ⟨.hbm, 323, rfl⟩
abbrev main_call10_v5 : Ref sig .tc := ⟨.hbm, 324, rfl⟩
abbrev main_call10_c_1 : Ref sig .tc := ⟨.hbm, 325, rfl⟩
abbrev main_call10_c_2 : Ref sig .tc := ⟨.hbm, 326, rfl⟩
abbrev main_call10_v6 : Ref sig .tc := ⟨.hbm, 327, rfl⟩
abbrev main_call10_v7 : Ref sig .tc := ⟨.hbm, 328, rfl⟩
abbrev main_call10_v8 : Ref sig .tc := ⟨.hbm, 329, rfl⟩
abbrev main_call10_v9 : Ref sig .tc := ⟨.hbm, 330, rfl⟩
abbrev main_call10_v10 : Ref sig .tc := ⟨.hbm, 331, rfl⟩
abbrev main_call10_v11 : Ref sig .tc := ⟨.hbm, 332, rfl⟩
abbrev main_call10_c_3 : Ref sig .tc := ⟨.hbm, 333, rfl⟩
abbrev main_call10_v12 : Ref sig .tc := ⟨.hbm, 334, rfl⟩
abbrev main_call10_v13 : Ref sig .tc := ⟨.hbm, 335, rfl⟩
abbrev main_call10_v14 : Ref sig .tc := ⟨.hbm, 336, rfl⟩
abbrev main_call10_cst : Ref sig .tc := ⟨.hbm, 337, rfl⟩
abbrev main_call10_v15 : Ref sig .tc := ⟨.hbm, 338, rfl⟩
abbrev main_v77 : Ref sig .tc := ⟨.hbm, 339, rfl⟩
abbrev main_v78 : Ref sig .tc := ⟨.hbm, 340, rfl⟩
abbrev main_call11_c : Ref sig .tc := ⟨.hbm, 341, rfl⟩
abbrev main_call11_v0 : Ref sig .tc := ⟨.hbm, 342, rfl⟩
abbrev main_call11_v1 : Ref sig .tc := ⟨.hbm, 343, rfl⟩
abbrev main_call11_c_0 : Ref sig .tc := ⟨.hbm, 344, rfl⟩
abbrev main_call11_v2 : Ref sig .tc := ⟨.hbm, 345, rfl⟩
abbrev main_call11_v3 : Ref sig .tc := ⟨.hbm, 346, rfl⟩
abbrev main_call11_v4 : Ref sig .tc := ⟨.hbm, 347, rfl⟩
abbrev main_call11_v5 : Ref sig .tc := ⟨.hbm, 348, rfl⟩
abbrev main_call11_c_1 : Ref sig .tc := ⟨.hbm, 349, rfl⟩
abbrev main_call11_c_2 : Ref sig .tc := ⟨.hbm, 350, rfl⟩
abbrev main_call11_v6 : Ref sig .tc := ⟨.hbm, 351, rfl⟩
abbrev main_call11_v7 : Ref sig .tc := ⟨.hbm, 352, rfl⟩
abbrev main_call11_v8 : Ref sig .tc := ⟨.hbm, 353, rfl⟩
abbrev main_call11_v9 : Ref sig .tc := ⟨.hbm, 354, rfl⟩
abbrev main_call11_v10 : Ref sig .tc := ⟨.hbm, 355, rfl⟩
abbrev main_call11_v11 : Ref sig .tc := ⟨.hbm, 356, rfl⟩
abbrev main_call11_c_3 : Ref sig .tc := ⟨.hbm, 357, rfl⟩
abbrev main_call11_v12 : Ref sig .tc := ⟨.hbm, 358, rfl⟩
abbrev main_call11_v13 : Ref sig .tc := ⟨.hbm, 359, rfl⟩
abbrev main_call11_v14 : Ref sig .tc := ⟨.hbm, 360, rfl⟩
abbrev main_call11_cst : Ref sig .tc := ⟨.hbm, 361, rfl⟩
abbrev main_call11_v15 : Ref sig .tc := ⟨.hbm, 362, rfl⟩
abbrev main_v79 : Ref sig .tc := ⟨.hbm, 363, rfl⟩
abbrev main_v80 : Ref sig .tc := ⟨.hbm, 364, rfl⟩
abbrev main_v81 : Ref sig .tc := ⟨.hbm, 365, rfl⟩
abbrev main_v82 : Ref sig .tc := ⟨.hbm, 366, rfl⟩
abbrev main_v83 : Ref sig .tc := ⟨.hbm, 367, rfl⟩
abbrev main_cst_15 : Ref sig .tc := ⟨.hbm, 368, rfl⟩
abbrev main_v84 : Ref sig .tc := ⟨.hbm, 369, rfl⟩
abbrev main_v85 : Ref sig .tc := ⟨.hbm, 370, rfl⟩
abbrev main_v86 : Ref sig .tc := ⟨.hbm, 371, rfl⟩
abbrev main_c_16 : Ref sig .tc := ⟨.hbm, 372, rfl⟩
abbrev main_v87 : Ref sig .tc := ⟨.hbm, 373, rfl⟩
abbrev main_v88 : Ref sig .tc := ⟨.hbm, 374, rfl⟩
abbrev main_c_17 : Ref sig .tc := ⟨.hbm, 375, rfl⟩
abbrev main_v89 : Ref sig .tc := ⟨.hbm, 376, rfl⟩
abbrev main_v90 : Ref sig .tc := ⟨.hbm, 377, rfl⟩
abbrev main_v91 : Ref sig .tc := ⟨.hbm, 378, rfl⟩
abbrev main_call12_c : Ref sig .tc := ⟨.hbm, 379, rfl⟩
abbrev main_call12_v0 : Ref sig .tc := ⟨.hbm, 380, rfl⟩
abbrev main_call12_v1 : Ref sig .tc := ⟨.hbm, 381, rfl⟩
abbrev main_call12_c_0 : Ref sig .tc := ⟨.hbm, 382, rfl⟩
abbrev main_call12_v2 : Ref sig .tc := ⟨.hbm, 383, rfl⟩
abbrev main_call12_v3 : Ref sig .tc := ⟨.hbm, 384, rfl⟩
abbrev main_call12_v4 : Ref sig .tc := ⟨.hbm, 385, rfl⟩
abbrev main_call12_v5 : Ref sig .tc := ⟨.hbm, 386, rfl⟩
abbrev main_call12_c_1 : Ref sig .tc := ⟨.hbm, 387, rfl⟩
abbrev main_call12_c_2 : Ref sig .tc := ⟨.hbm, 388, rfl⟩
abbrev main_call12_v6 : Ref sig .tc := ⟨.hbm, 389, rfl⟩
abbrev main_call12_v7 : Ref sig .tc := ⟨.hbm, 390, rfl⟩
abbrev main_call12_v8 : Ref sig .tc := ⟨.hbm, 391, rfl⟩
abbrev main_call12_v9 : Ref sig .tc := ⟨.hbm, 392, rfl⟩
abbrev main_call12_v10 : Ref sig .tc := ⟨.hbm, 393, rfl⟩
abbrev main_call12_v11 : Ref sig .tc := ⟨.hbm, 394, rfl⟩
abbrev main_call12_c_3 : Ref sig .tc := ⟨.hbm, 395, rfl⟩
abbrev main_call12_v12 : Ref sig .tc := ⟨.hbm, 396, rfl⟩
abbrev main_call12_v13 : Ref sig .tc := ⟨.hbm, 397, rfl⟩
abbrev main_call12_v14 : Ref sig .tc := ⟨.hbm, 398, rfl⟩
abbrev main_call12_cst : Ref sig .tc := ⟨.hbm, 399, rfl⟩
abbrev main_call12_v15 : Ref sig .tc := ⟨.hbm, 400, rfl⟩
abbrev main_v92 : Ref sig .tc := ⟨.hbm, 401, rfl⟩
abbrev main_v93 : Ref sig .tc := ⟨.hbm, 402, rfl⟩
abbrev main_call13_c : Ref sig .tc := ⟨.hbm, 403, rfl⟩
abbrev main_call13_v0 : Ref sig .tc := ⟨.hbm, 404, rfl⟩
abbrev main_call13_v1 : Ref sig .tc := ⟨.hbm, 405, rfl⟩
abbrev main_call13_c_0 : Ref sig .tc := ⟨.hbm, 406, rfl⟩
abbrev main_call13_v2 : Ref sig .tc := ⟨.hbm, 407, rfl⟩
abbrev main_call13_v3 : Ref sig .tc := ⟨.hbm, 408, rfl⟩
abbrev main_call13_v4 : Ref sig .tc := ⟨.hbm, 409, rfl⟩
abbrev main_call13_v5 : Ref sig .tc := ⟨.hbm, 410, rfl⟩
abbrev main_call13_c_1 : Ref sig .tc := ⟨.hbm, 411, rfl⟩
abbrev main_call13_c_2 : Ref sig .tc := ⟨.hbm, 412, rfl⟩
abbrev main_call13_v6 : Ref sig .tc := ⟨.hbm, 413, rfl⟩
abbrev main_call13_v7 : Ref sig .tc := ⟨.hbm, 414, rfl⟩
abbrev main_call13_v8 : Ref sig .tc := ⟨.hbm, 415, rfl⟩
abbrev main_call13_v9 : Ref sig .tc := ⟨.hbm, 416, rfl⟩
abbrev main_call13_v10 : Ref sig .tc := ⟨.hbm, 417, rfl⟩
abbrev main_call13_v11 : Ref sig .tc := ⟨.hbm, 418, rfl⟩
abbrev main_call13_c_3 : Ref sig .tc := ⟨.hbm, 419, rfl⟩
abbrev main_call13_v12 : Ref sig .tc := ⟨.hbm, 420, rfl⟩
abbrev main_call13_v13 : Ref sig .tc := ⟨.hbm, 421, rfl⟩
abbrev main_call13_v14 : Ref sig .tc := ⟨.hbm, 422, rfl⟩
abbrev main_call13_cst : Ref sig .tc := ⟨.hbm, 423, rfl⟩
abbrev main_call13_v15 : Ref sig .tc := ⟨.hbm, 424, rfl⟩
abbrev main_v94 : Ref sig .tc := ⟨.hbm, 425, rfl⟩
abbrev main_v95 : Ref sig .tc := ⟨.hbm, 426, rfl⟩
abbrev main_v96 : Ref sig .tc := ⟨.hbm, 427, rfl⟩
abbrev main_v97 : Ref sig .tc := ⟨.hbm, 428, rfl⟩
abbrev main_v98 : Ref sig .tc := ⟨.hbm, 429, rfl⟩
abbrev main_cst_18 : Ref sig .tc := ⟨.hbm, 430, rfl⟩
abbrev main_v99 : Ref sig .tc := ⟨.hbm, 431, rfl⟩
abbrev main_v100 : Ref sig .tc := ⟨.hbm, 432, rfl⟩
abbrev main_v101 : Ref sig .tc := ⟨.hbm, 433, rfl⟩
abbrev main_c_19 : Ref sig .tc := ⟨.hbm, 434, rfl⟩
abbrev main_v102 : Ref sig .tc := ⟨.hbm, 435, rfl⟩
abbrev main_v103 : Ref sig .tc := ⟨.hbm, 436, rfl⟩
abbrev main_c_20 : Ref sig .tc := ⟨.hbm, 437, rfl⟩
abbrev main_v104 : Ref sig .tc := ⟨.hbm, 438, rfl⟩
abbrev main_v105 : Ref sig .tc := ⟨.hbm, 439, rfl⟩
abbrev main_v106 : Ref sig .tc := ⟨.hbm, 440, rfl⟩
abbrev main_call14_c : Ref sig .tc := ⟨.hbm, 441, rfl⟩
abbrev main_call14_v0 : Ref sig .tc := ⟨.hbm, 442, rfl⟩
abbrev main_call14_v1 : Ref sig .tc := ⟨.hbm, 443, rfl⟩
abbrev main_call14_c_0 : Ref sig .tc := ⟨.hbm, 444, rfl⟩
abbrev main_call14_v2 : Ref sig .tc := ⟨.hbm, 445, rfl⟩
abbrev main_call14_v3 : Ref sig .tc := ⟨.hbm, 446, rfl⟩
abbrev main_call14_v4 : Ref sig .tc := ⟨.hbm, 447, rfl⟩
abbrev main_call14_v5 : Ref sig .tc := ⟨.hbm, 448, rfl⟩
abbrev main_call14_c_1 : Ref sig .tc := ⟨.hbm, 449, rfl⟩
abbrev main_call14_c_2 : Ref sig .tc := ⟨.hbm, 450, rfl⟩
abbrev main_call14_v6 : Ref sig .tc := ⟨.hbm, 451, rfl⟩
abbrev main_call14_v7 : Ref sig .tc := ⟨.hbm, 452, rfl⟩
abbrev main_call14_v8 : Ref sig .tc := ⟨.hbm, 453, rfl⟩
abbrev main_call14_v9 : Ref sig .tc := ⟨.hbm, 454, rfl⟩
abbrev main_call14_v10 : Ref sig .tc := ⟨.hbm, 455, rfl⟩
abbrev main_call14_v11 : Ref sig .tc := ⟨.hbm, 456, rfl⟩
abbrev main_call14_c_3 : Ref sig .tc := ⟨.hbm, 457, rfl⟩
abbrev main_call14_v12 : Ref sig .tc := ⟨.hbm, 458, rfl⟩
abbrev main_call14_v13 : Ref sig .tc := ⟨.hbm, 459, rfl⟩
abbrev main_call14_v14 : Ref sig .tc := ⟨.hbm, 460, rfl⟩
abbrev main_call14_cst : Ref sig .tc := ⟨.hbm, 461, rfl⟩
abbrev main_call14_v15 : Ref sig .tc := ⟨.hbm, 462, rfl⟩
abbrev main_v107 : Ref sig .tc := ⟨.hbm, 463, rfl⟩
abbrev main_v108 : Ref sig .tc := ⟨.hbm, 464, rfl⟩
abbrev main_call15_c : Ref sig .tc := ⟨.hbm, 465, rfl⟩
abbrev main_call15_v0 : Ref sig .tc := ⟨.hbm, 466, rfl⟩
abbrev main_call15_v1 : Ref sig .tc := ⟨.hbm, 467, rfl⟩
abbrev main_call15_c_0 : Ref sig .tc := ⟨.hbm, 468, rfl⟩
abbrev main_call15_v2 : Ref sig .tc := ⟨.hbm, 469, rfl⟩
abbrev main_call15_v3 : Ref sig .tc := ⟨.hbm, 470, rfl⟩
abbrev main_call15_v4 : Ref sig .tc := ⟨.hbm, 471, rfl⟩
abbrev main_call15_v5 : Ref sig .tc := ⟨.hbm, 472, rfl⟩
abbrev main_call15_c_1 : Ref sig .tc := ⟨.hbm, 473, rfl⟩
abbrev main_call15_c_2 : Ref sig .tc := ⟨.hbm, 474, rfl⟩
abbrev main_call15_v6 : Ref sig .tc := ⟨.hbm, 475, rfl⟩
abbrev main_call15_v7 : Ref sig .tc := ⟨.hbm, 476, rfl⟩
abbrev main_call15_v8 : Ref sig .tc := ⟨.hbm, 477, rfl⟩
abbrev main_call15_v9 : Ref sig .tc := ⟨.hbm, 478, rfl⟩
abbrev main_call15_v10 : Ref sig .tc := ⟨.hbm, 479, rfl⟩
abbrev main_call15_v11 : Ref sig .tc := ⟨.hbm, 480, rfl⟩
abbrev main_call15_c_3 : Ref sig .tc := ⟨.hbm, 481, rfl⟩
abbrev main_call15_v12 : Ref sig .tc := ⟨.hbm, 482, rfl⟩
abbrev main_call15_v13 : Ref sig .tc := ⟨.hbm, 483, rfl⟩
abbrev main_call15_v14 : Ref sig .tc := ⟨.hbm, 484, rfl⟩
abbrev main_call15_cst : Ref sig .tc := ⟨.hbm, 485, rfl⟩
abbrev main_call15_v15 : Ref sig .tc := ⟨.hbm, 486, rfl⟩
abbrev main_v109 : Ref sig .tc := ⟨.hbm, 487, rfl⟩
abbrev main_v110 : Ref sig .tc := ⟨.hbm, 488, rfl⟩
abbrev main_v111 : Ref sig .tc := ⟨.hbm, 489, rfl⟩
abbrev main_v112 : Ref sig .tc := ⟨.hbm, 490, rfl⟩
abbrev main_v113 : Ref sig .tc := ⟨.hbm, 491, rfl⟩
abbrev main_cst_21 : Ref sig .tc := ⟨.hbm, 492, rfl⟩
abbrev main_v114 : Ref sig .tc := ⟨.hbm, 493, rfl⟩
abbrev main_v115 : Ref sig .tc := ⟨.hbm, 494, rfl⟩
abbrev main_v116 : Ref sig .tc := ⟨.hbm, 495, rfl⟩
abbrev main_c_22 : Ref sig .tc := ⟨.hbm, 496, rfl⟩
abbrev main_v117 : Ref sig .tc := ⟨.hbm, 497, rfl⟩
abbrev main_v118 : Ref sig .tc := ⟨.hbm, 498, rfl⟩
abbrev main_c_23 : Ref sig .tc := ⟨.hbm, 499, rfl⟩
abbrev main_v119 : Ref sig .tc := ⟨.hbm, 500, rfl⟩
abbrev main_v120 : Ref sig .tc := ⟨.hbm, 501, rfl⟩
abbrev main_v121 : Ref sig .tc := ⟨.hbm, 502, rfl⟩
abbrev main_call16_c : Ref sig .tc := ⟨.hbm, 503, rfl⟩
abbrev main_call16_v0 : Ref sig .tc := ⟨.hbm, 504, rfl⟩
abbrev main_call16_v1 : Ref sig .tc := ⟨.hbm, 505, rfl⟩
abbrev main_call16_c_0 : Ref sig .tc := ⟨.hbm, 506, rfl⟩
abbrev main_call16_v2 : Ref sig .tc := ⟨.hbm, 507, rfl⟩
abbrev main_call16_v3 : Ref sig .tc := ⟨.hbm, 508, rfl⟩
abbrev main_call16_v4 : Ref sig .tc := ⟨.hbm, 509, rfl⟩
abbrev main_call16_v5 : Ref sig .tc := ⟨.hbm, 510, rfl⟩
abbrev main_call16_c_1 : Ref sig .tc := ⟨.hbm, 511, rfl⟩
abbrev main_call16_c_2 : Ref sig .tc := ⟨.hbm, 512, rfl⟩
abbrev main_call16_v6 : Ref sig .tc := ⟨.hbm, 513, rfl⟩
abbrev main_call16_v7 : Ref sig .tc := ⟨.hbm, 514, rfl⟩
abbrev main_call16_v8 : Ref sig .tc := ⟨.hbm, 515, rfl⟩
abbrev main_call16_v9 : Ref sig .tc := ⟨.hbm, 516, rfl⟩
abbrev main_call16_v10 : Ref sig .tc := ⟨.hbm, 517, rfl⟩
abbrev main_call16_v11 : Ref sig .tc := ⟨.hbm, 518, rfl⟩
abbrev main_call16_c_3 : Ref sig .tc := ⟨.hbm, 519, rfl⟩
abbrev main_call16_v12 : Ref sig .tc := ⟨.hbm, 520, rfl⟩
abbrev main_call16_v13 : Ref sig .tc := ⟨.hbm, 521, rfl⟩
abbrev main_call16_v14 : Ref sig .tc := ⟨.hbm, 522, rfl⟩
abbrev main_call16_cst : Ref sig .tc := ⟨.hbm, 523, rfl⟩
abbrev main_call16_v15 : Ref sig .tc := ⟨.hbm, 524, rfl⟩
abbrev main_v122 : Ref sig .tc := ⟨.hbm, 525, rfl⟩
abbrev main_v123 : Ref sig .tc := ⟨.hbm, 526, rfl⟩
abbrev main_call17_c : Ref sig .tc := ⟨.hbm, 527, rfl⟩
abbrev main_call17_v0 : Ref sig .tc := ⟨.hbm, 528, rfl⟩
abbrev main_call17_v1 : Ref sig .tc := ⟨.hbm, 529, rfl⟩
abbrev main_call17_c_0 : Ref sig .tc := ⟨.hbm, 530, rfl⟩
abbrev main_call17_v2 : Ref sig .tc := ⟨.hbm, 531, rfl⟩
abbrev main_call17_v3 : Ref sig .tc := ⟨.hbm, 532, rfl⟩
abbrev main_call17_v4 : Ref sig .tc := ⟨.hbm, 533, rfl⟩
abbrev main_call17_v5 : Ref sig .tc := ⟨.hbm, 534, rfl⟩
abbrev main_call17_c_1 : Ref sig .tc := ⟨.hbm, 535, rfl⟩
abbrev main_call17_c_2 : Ref sig .tc := ⟨.hbm, 536, rfl⟩
abbrev main_call17_v6 : Ref sig .tc := ⟨.hbm, 537, rfl⟩
abbrev main_call17_v7 : Ref sig .tc := ⟨.hbm, 538, rfl⟩
abbrev main_call17_v8 : Ref sig .tc := ⟨.hbm, 539, rfl⟩
abbrev main_call17_v9 : Ref sig .tc := ⟨.hbm, 540, rfl⟩
abbrev main_call17_v10 : Ref sig .tc := ⟨.hbm, 541, rfl⟩
abbrev main_call17_v11 : Ref sig .tc := ⟨.hbm, 542, rfl⟩
abbrev main_call17_c_3 : Ref sig .tc := ⟨.hbm, 543, rfl⟩
abbrev main_call17_v12 : Ref sig .tc := ⟨.hbm, 544, rfl⟩
abbrev main_call17_v13 : Ref sig .tc := ⟨.hbm, 545, rfl⟩
abbrev main_call17_v14 : Ref sig .tc := ⟨.hbm, 546, rfl⟩
abbrev main_call17_cst : Ref sig .tc := ⟨.hbm, 547, rfl⟩
abbrev main_call17_v15 : Ref sig .tc := ⟨.hbm, 548, rfl⟩
abbrev main_v124 : Ref sig .tc := ⟨.hbm, 549, rfl⟩
abbrev main_v125 : Ref sig .tc := ⟨.hbm, 550, rfl⟩
abbrev main_v126 : Ref sig .tc := ⟨.hbm, 551, rfl⟩
abbrev main_v127 : Ref sig .tc := ⟨.hbm, 552, rfl⟩
abbrev main_v128 : Ref sig .tc := ⟨.hbm, 553, rfl⟩
abbrev main_cst_24 : Ref sig .tc := ⟨.hbm, 554, rfl⟩
abbrev main_v129 : Ref sig .tc := ⟨.hbm, 555, rfl⟩
abbrev main_v130 : Ref sig .tc := ⟨.hbm, 556, rfl⟩
abbrev main_v131 : Ref sig .tc := ⟨.hbm, 557, rfl⟩
abbrev main_c_25 : Ref sig .tc := ⟨.hbm, 558, rfl⟩
abbrev main_v132 : Ref sig .tc := ⟨.hbm, 559, rfl⟩
abbrev main_v133 : Ref sig .tc := ⟨.hbm, 560, rfl⟩
abbrev main_c_26 : Ref sig .tc := ⟨.hbm, 561, rfl⟩
abbrev main_v134 : Ref sig .tc := ⟨.hbm, 562, rfl⟩
abbrev main_v135 : Ref sig .tc := ⟨.hbm, 563, rfl⟩
abbrev main_v136 : Ref sig .tc := ⟨.hbm, 564, rfl⟩
abbrev main_call18_c : Ref sig .tc := ⟨.hbm, 565, rfl⟩
abbrev main_call18_v0 : Ref sig .tc := ⟨.hbm, 566, rfl⟩
abbrev main_call18_v1 : Ref sig .tc := ⟨.hbm, 567, rfl⟩
abbrev main_call18_c_0 : Ref sig .tc := ⟨.hbm, 568, rfl⟩
abbrev main_call18_v2 : Ref sig .tc := ⟨.hbm, 569, rfl⟩
abbrev main_call18_v3 : Ref sig .tc := ⟨.hbm, 570, rfl⟩
abbrev main_call18_v4 : Ref sig .tc := ⟨.hbm, 571, rfl⟩
abbrev main_call18_v5 : Ref sig .tc := ⟨.hbm, 572, rfl⟩
abbrev main_call18_c_1 : Ref sig .tc := ⟨.hbm, 573, rfl⟩
abbrev main_call18_c_2 : Ref sig .tc := ⟨.hbm, 574, rfl⟩
abbrev main_call18_v6 : Ref sig .tc := ⟨.hbm, 575, rfl⟩
abbrev main_call18_v7 : Ref sig .tc := ⟨.hbm, 576, rfl⟩
abbrev main_call18_v8 : Ref sig .tc := ⟨.hbm, 577, rfl⟩
abbrev main_call18_v9 : Ref sig .tc := ⟨.hbm, 578, rfl⟩
abbrev main_call18_v10 : Ref sig .tc := ⟨.hbm, 579, rfl⟩
abbrev main_call18_v11 : Ref sig .tc := ⟨.hbm, 580, rfl⟩
abbrev main_call18_c_3 : Ref sig .tc := ⟨.hbm, 581, rfl⟩
abbrev main_call18_v12 : Ref sig .tc := ⟨.hbm, 582, rfl⟩
abbrev main_call18_v13 : Ref sig .tc := ⟨.hbm, 583, rfl⟩
abbrev main_call18_v14 : Ref sig .tc := ⟨.hbm, 584, rfl⟩
abbrev main_call18_cst : Ref sig .tc := ⟨.hbm, 585, rfl⟩
abbrev main_call18_v15 : Ref sig .tc := ⟨.hbm, 586, rfl⟩
abbrev main_v137 : Ref sig .tc := ⟨.hbm, 587, rfl⟩
abbrev main_v138 : Ref sig .tc := ⟨.hbm, 588, rfl⟩
abbrev main_call19_c : Ref sig .tc := ⟨.hbm, 589, rfl⟩
abbrev main_call19_v0 : Ref sig .tc := ⟨.hbm, 590, rfl⟩
abbrev main_call19_v1 : Ref sig .tc := ⟨.hbm, 591, rfl⟩
abbrev main_call19_c_0 : Ref sig .tc := ⟨.hbm, 592, rfl⟩
abbrev main_call19_v2 : Ref sig .tc := ⟨.hbm, 593, rfl⟩
abbrev main_call19_v3 : Ref sig .tc := ⟨.hbm, 594, rfl⟩
abbrev main_call19_v4 : Ref sig .tc := ⟨.hbm, 595, rfl⟩
abbrev main_call19_v5 : Ref sig .tc := ⟨.hbm, 596, rfl⟩
abbrev main_call19_c_1 : Ref sig .tc := ⟨.hbm, 597, rfl⟩
abbrev main_call19_c_2 : Ref sig .tc := ⟨.hbm, 598, rfl⟩
abbrev main_call19_v6 : Ref sig .tc := ⟨.hbm, 599, rfl⟩
abbrev main_call19_v7 : Ref sig .tc := ⟨.hbm, 600, rfl⟩
abbrev main_call19_v8 : Ref sig .tc := ⟨.hbm, 601, rfl⟩
abbrev main_call19_v9 : Ref sig .tc := ⟨.hbm, 602, rfl⟩
abbrev main_call19_v10 : Ref sig .tc := ⟨.hbm, 603, rfl⟩
abbrev main_call19_v11 : Ref sig .tc := ⟨.hbm, 604, rfl⟩
abbrev main_call19_c_3 : Ref sig .tc := ⟨.hbm, 605, rfl⟩
abbrev main_call19_v12 : Ref sig .tc := ⟨.hbm, 606, rfl⟩
abbrev main_call19_v13 : Ref sig .tc := ⟨.hbm, 607, rfl⟩
abbrev main_call19_v14 : Ref sig .tc := ⟨.hbm, 608, rfl⟩
abbrev main_call19_cst : Ref sig .tc := ⟨.hbm, 609, rfl⟩
abbrev main_call19_v15 : Ref sig .tc := ⟨.hbm, 610, rfl⟩
abbrev main_v139 : Ref sig .tc := ⟨.hbm, 611, rfl⟩
abbrev main_v140 : Ref sig .tc := ⟨.hbm, 612, rfl⟩
abbrev main_v141 : Ref sig .tc := ⟨.hbm, 613, rfl⟩
abbrev main_v142 : Ref sig .tc := ⟨.hbm, 614, rfl⟩
abbrev main_v143 : Ref sig .tc := ⟨.hbm, 615, rfl⟩
abbrev main_cst_27 : Ref sig .tc := ⟨.hbm, 616, rfl⟩
abbrev main_v144 : Ref sig .tc := ⟨.hbm, 617, rfl⟩
abbrev main_v145 : Ref sig .tc := ⟨.hbm, 618, rfl⟩
abbrev main_v146 : Ref sig .tc := ⟨.hbm, 619, rfl⟩
abbrev main_c_28 : Ref sig .tc := ⟨.hbm, 620, rfl⟩
abbrev main_v147 : Ref sig .tc := ⟨.hbm, 621, rfl⟩
abbrev main_v148 : Ref sig .tc := ⟨.hbm, 622, rfl⟩
abbrev main_c_29 : Ref sig .tc := ⟨.hbm, 623, rfl⟩
abbrev main_v149 : Ref sig .tc := ⟨.hbm, 624, rfl⟩
abbrev main_v150 : Ref sig .tc := ⟨.hbm, 625, rfl⟩
abbrev main_v151 : Ref sig .tc := ⟨.hbm, 626, rfl⟩
abbrev main_call20_c : Ref sig .tc := ⟨.hbm, 627, rfl⟩
abbrev main_call20_v0 : Ref sig .tc := ⟨.hbm, 628, rfl⟩
abbrev main_call20_v1 : Ref sig .tc := ⟨.hbm, 629, rfl⟩
abbrev main_call20_c_0 : Ref sig .tc := ⟨.hbm, 630, rfl⟩
abbrev main_call20_v2 : Ref sig .tc := ⟨.hbm, 631, rfl⟩
abbrev main_call20_v3 : Ref sig .tc := ⟨.hbm, 632, rfl⟩
abbrev main_call20_v4 : Ref sig .tc := ⟨.hbm, 633, rfl⟩
abbrev main_call20_v5 : Ref sig .tc := ⟨.hbm, 634, rfl⟩
abbrev main_call20_c_1 : Ref sig .tc := ⟨.hbm, 635, rfl⟩
abbrev main_call20_c_2 : Ref sig .tc := ⟨.hbm, 636, rfl⟩
abbrev main_call20_v6 : Ref sig .tc := ⟨.hbm, 637, rfl⟩
abbrev main_call20_v7 : Ref sig .tc := ⟨.hbm, 638, rfl⟩
abbrev main_call20_v8 : Ref sig .tc := ⟨.hbm, 639, rfl⟩
abbrev main_call20_v9 : Ref sig .tc := ⟨.hbm, 640, rfl⟩
abbrev main_call20_v10 : Ref sig .tc := ⟨.hbm, 641, rfl⟩
abbrev main_call20_v11 : Ref sig .tc := ⟨.hbm, 642, rfl⟩
abbrev main_call20_c_3 : Ref sig .tc := ⟨.hbm, 643, rfl⟩
abbrev main_call20_v12 : Ref sig .tc := ⟨.hbm, 644, rfl⟩
abbrev main_call20_v13 : Ref sig .tc := ⟨.hbm, 645, rfl⟩
abbrev main_call20_v14 : Ref sig .tc := ⟨.hbm, 646, rfl⟩
abbrev main_call20_cst : Ref sig .tc := ⟨.hbm, 647, rfl⟩
abbrev main_call20_v15 : Ref sig .tc := ⟨.hbm, 648, rfl⟩
abbrev main_v152 : Ref sig .tc := ⟨.hbm, 649, rfl⟩
abbrev main_v153 : Ref sig .tc := ⟨.hbm, 650, rfl⟩
abbrev main_call21_c : Ref sig .tc := ⟨.hbm, 651, rfl⟩
abbrev main_call21_v0 : Ref sig .tc := ⟨.hbm, 652, rfl⟩
abbrev main_call21_v1 : Ref sig .tc := ⟨.hbm, 653, rfl⟩
abbrev main_call21_c_0 : Ref sig .tc := ⟨.hbm, 654, rfl⟩
abbrev main_call21_v2 : Ref sig .tc := ⟨.hbm, 655, rfl⟩
abbrev main_call21_v3 : Ref sig .tc := ⟨.hbm, 656, rfl⟩
abbrev main_call21_v4 : Ref sig .tc := ⟨.hbm, 657, rfl⟩
abbrev main_call21_v5 : Ref sig .tc := ⟨.hbm, 658, rfl⟩
abbrev main_call21_c_1 : Ref sig .tc := ⟨.hbm, 659, rfl⟩
abbrev main_call21_c_2 : Ref sig .tc := ⟨.hbm, 660, rfl⟩
abbrev main_call21_v6 : Ref sig .tc := ⟨.hbm, 661, rfl⟩
abbrev main_call21_v7 : Ref sig .tc := ⟨.hbm, 662, rfl⟩
abbrev main_call21_v8 : Ref sig .tc := ⟨.hbm, 663, rfl⟩
abbrev main_call21_v9 : Ref sig .tc := ⟨.hbm, 664, rfl⟩
abbrev main_call21_v10 : Ref sig .tc := ⟨.hbm, 665, rfl⟩
abbrev main_call21_v11 : Ref sig .tc := ⟨.hbm, 666, rfl⟩
abbrev main_call21_c_3 : Ref sig .tc := ⟨.hbm, 667, rfl⟩
abbrev main_call21_v12 : Ref sig .tc := ⟨.hbm, 668, rfl⟩
abbrev main_call21_v13 : Ref sig .tc := ⟨.hbm, 669, rfl⟩
abbrev main_call21_v14 : Ref sig .tc := ⟨.hbm, 670, rfl⟩
abbrev main_call21_cst : Ref sig .tc := ⟨.hbm, 671, rfl⟩
abbrev main_call21_v15 : Ref sig .tc := ⟨.hbm, 672, rfl⟩
abbrev main_v154 : Ref sig .tc := ⟨.hbm, 673, rfl⟩
abbrev main_v155 : Ref sig .tc := ⟨.hbm, 674, rfl⟩
abbrev main_v156 : Ref sig .tc := ⟨.hbm, 675, rfl⟩
abbrev main_v157 : Ref sig .tc := ⟨.hbm, 676, rfl⟩
abbrev main_v158 : Ref sig .tc := ⟨.hbm, 677, rfl⟩
abbrev main_cst_30 : Ref sig .tc := ⟨.hbm, 678, rfl⟩
abbrev main_v159 : Ref sig .tc := ⟨.hbm, 679, rfl⟩
abbrev main_v160 : Ref sig .tc := ⟨.hbm, 680, rfl⟩
abbrev main_v161 : Ref sig .tc := ⟨.hbm, 681, rfl⟩
abbrev main_c_31 : Ref sig .tc := ⟨.hbm, 682, rfl⟩
abbrev main_v162 : Ref sig .tc := ⟨.hbm, 683, rfl⟩
abbrev main_v163 : Ref sig .tc := ⟨.hbm, 684, rfl⟩
abbrev main_c_32 : Ref sig .tc := ⟨.hbm, 685, rfl⟩
abbrev main_v164 : Ref sig .tc := ⟨.hbm, 686, rfl⟩
abbrev main_v165 : Ref sig .tc := ⟨.hbm, 687, rfl⟩
abbrev main_v166 : Ref sig .tc := ⟨.hbm, 688, rfl⟩

abbrev nD : Nat := 1
abbrev τ : Topo := Topo.v7x

variable {F : FTy → Type} [FloatOps F]
-- ==== Proof.Tree.lean ====
/- The walk down the tree, with no program in sight. A complete binary tree is numbered level by level from the root 0, so that the children
   of node `k` are `2k + 1` and `2k + 2` and level `d` is the run of `2 ^ d` nodes that starts at `2 ^ d - 1`. Given one score per node, the
   walk goes from a node to its second child when the score there is positive and to its first child otherwise. -/
module

public import Mathlib.Data.EReal.Operations
public import Mathlib.Algebra.BigOperators.Fin

@[expose] public section

noncomputable section

namespace Cert.Tree

/-- The node the walk stands on after `d` steps from the root, `s` being the scores. -/
def walk (s : ℕ → EReal) : ℕ → ℕ
  | 0 => 0
  | d + 1 => 2 * walk s d + 1 + if 0 < s (walk s d) then 1 else 0

/-- After `d` steps the walk stands on level `d`. -/
theorem walk_level (s : ℕ → EReal) (d : ℕ) : 2 ^ d ≤ walk s d + 1 ∧ walk s d + 1 < 2 ^ (d + 1) := by
  induction d with
  | zero => simp [walk]
  | succ d ih =>
    rw [pow_succ 2 (d + 1), walk]
    split_ifs <;> omega

/-- Within the first eleven levels the walk stays below 2047. -/
theorem walk_lt (s : ℕ → EReal) {d : ℕ} (hd : d < 11) : walk s d < 2047 := by
  have h := (walk_level s d).2
  have := Nat.pow_le_pow_right (n := 2) (by omega) (show d + 1 ≤ 11 by omega)
  omega

/-- The step a node on the walk belongs to is its level: a node of level `d` met at step `d'` is met at step `d`. -/
theorem step_eq_level (s : ℕ → EReal) {d d' : ℕ} (h1 : 2 ^ d ≤ walk s d' + 1) (h2 : walk s d' + 1 < 2 ^ (d + 1)) : d' = d := by
  obtain ⟨h3, h4⟩ := walk_level s d'
  have a : d < d' + 1 := (Nat.pow_lt_pow_iff_right (a := 2) (by omega)).1 (h1.trans_lt h4)
  have b : d' < d + 1 := (Nat.pow_lt_pow_iff_right (a := 2) (by omega)).1 (h3.trans_lt h2)
  omega

/-- Node `j` lies on the walk's first eleven nodes. -/
def OnWalk (s : ℕ → EReal) (j : ℕ) : Prop := ∃ d, d < 11 ∧ walk s d = j

open Classical in
/-- The coefficient of node `j`: its score when the walk passes through it, zero otherwise. -/
def coeff (s : ℕ → EReal) (j : ℕ) : EReal := if OnWalk s j then s j else 0

/-- On level `d` the only node with a coefficient is the one the walk meets at step `d`. -/
theorem coeff_level (s : ℕ → EReal) {d j : ℕ} (hd : d < 11) (h1 : 2 ^ d ≤ j + 1) (h2 : j + 1 < 2 ^ (d + 1)) :
    coeff s j = if j = walk s d then s j else 0 := by
  classical
  unfold coeff
  refine if_congr ⟨?_, fun h => ⟨d, hd, h.symm⟩⟩ rfl rfl
  rintro ⟨d', -, rfl⟩
  rw [step_eq_level s h1 h2]

/-- A node with a nonzero coefficient is met at one of the eleven steps. -/
theorem onWalk_of_coeff_ne (s : ℕ → EReal) {j : ℕ} (h : coeff s j ≠ 0) : OnWalk s j := by
  by_contra hn
  exact h (by rw [coeff, if_neg hn])

/-- A sum over all 2048 columns weighted by the coefficients is the sum over the eleven nodes of the walk. -/
theorem sum_coeff (s : ℕ → EReal) (g : ℕ → EReal) :
    ∑ j : Fin 2048, coeff s j * g j = ∑ d : Fin 11, s (walk s d) * g (walk s d) := by
  classical
  rw [Fin.sum_univ_eq_sum_range (fun j => coeff s j * g j) 2048, Fin.sum_univ_eq_sum_range (fun d => s (walk s d) * g (walk s d)) 11]
  have hinj : Set.InjOn (walk s) (Finset.range 11 : Finset ℕ) := by
    intro a _ b _ h
    have := walk_level s b
    rw [← h] at this
    exact step_eq_level s this.1 this.2
  rw [← Finset.sum_image (f := fun j => s j * g j) hinj]
  symm
  refine Finset.sum_subset_zero_on_sdiff ?_ ?_ ?_
  · intro j hj
    obtain ⟨d, hd, rfl⟩ := Finset.mem_image.1 hj
    have := walk_lt s (Finset.mem_range.1 hd)
    exact Finset.mem_range.2 (by omega)
  · intro j hj
    have hn : ¬ OnWalk s j := fun ⟨d, hd, e⟩ =>
      (Finset.mem_sdiff.1 hj).2 (Finset.mem_image.2 ⟨d, Finset.mem_range.2 hd, e⟩)
    rw [coeff, if_neg hn, zero_mul]
  · intro j hj
    obtain ⟨d, hd, rfl⟩ := Finset.mem_image.1 hj
    rw [coeff, if_pos ⟨d, Finset.mem_range.1 hd, rfl⟩]

end Cert.Tree

end
-- ==== Proof.Level.lean ====
/- One level of the kernel's walk, at any width and any offset. A level holds the block's 256 rows of `w` scores, the scores of the nodes
   `lo`, `lo + 1`, …, and the node each row stands on, as a word. It keeps in each row the one score of the row's node (`pick`), adds the row
   up and moves to a child by the sign of that sum (`next`). The payloads of the program are these two functions at eleven widths. -/
module

public import proofs.«01_k».proof.Proof.Gen.KernelIdeal.Skeleton
public import proofs.«01_k».proof.Proof.Tree
public import Idealize.ShloMosaic.Lib.Pointwise
public import Idealize.ShloMosaic.Lib.Pointwise.IndexVar

@[expose] public section

set_option maxRecDepth 16384

noncomputable section

namespace Cert.KernelIdeal.Value

open Cert.KernelIdeal Cert.KernelIdeal.Gen Idealize.ShloMosaic Idealize.ShloMosaic.TcCoe Idealize.SL.Sem
open Cert.Tree

/-- The shape of `w` columns of a block. -/
abbrev Cols (w : ℕ) : Shape := ⟨2, ![256, w]⟩

/-- Columns can be numbered at any width. -/
theorem iot (w : ℕ) : (Cols w).Iotas .tc 32 [1] := by
  unfold Shape.Iotas; refine ⟨?_, ?_⟩ <;> simp

/-- One column spreads over any number of columns. -/
theorem bro (w : ℕ) : S256x1.Broadcasts (Cols w) := by
  refine ⟨le_rfl, fun a => ?_⟩
  match a with
  | 0 => exact Or.inr fun _ => rfl
  | 1 => exact Or.inl rfl

/-- A row of any width has a sum. -/
theorem red (w : ℕ) : (Cols w).Reduces [1] S256 := by
  refine ⟨rfl, by decide, fun b => ?_⟩
  match b with
  | 0 => rfl

/-- Each row's scores with every one zeroed but that of the row's node, `lo` being the first node of the level. -/
def pick (w lo : ℕ) (n : IVec S256x1 32) (v : FVec Ideal (Cols w) .f32) :
    FVec Ideal (Cols w) .f32 :=
  select (cmpi .eq (iota .tc (Cols w) 32 [1] (iot w)) (broadcastTo (Cols w) (subi n (broadcast S256x1 (BitVec.ofNat 32 lo))) (bro w))) v
    (broadcast (Cols w) (Scalar.ofBits (F := Ideal) .f32 0x00000000#32))

/-- The child each row moves to, given the scores that `pick` left. -/
def next (w : ℕ) (n : IVec S256x1 32) (p : FVec Ideal (Cols w) .f32) : IVec S256x1 32 :=
  addi (addi (muli (broadcast S256x1 2#32) n) (broadcast S256x1 1#32))
    (extui 32 (cmpf .ogt (shapeCast S256x1 (multiReduction .add [1] S256 p 0x00000000#32 (red w) (.inl rfl) rfl) shapeCasts_S256_S256x1)
      (broadcast S256x1 (Scalar.ofBits (F := Ideal) .f32 0x00000000#32))) natLt_1_32)

/-- A word test that a column is where the row's node lies on the level. -/
theorem word_eq_iff {lo k c : ℕ} (hlo : lo ≤ k) (hk : k < 2048) (hc : c < 2048) :
    BitVec.ofNat 32 c = BitVec.ofNat 32 k - BitVec.ofNat 32 lo ↔ lo + c = k := by
  rw [← BitVec.toNat_inj]
  simp only [BitVec.toNat_sub, BitVec.toNat_ofNat]
  omega

/-- `pick` at a row and a column. -/
theorem pick_apply (w lo : ℕ) (n : IVec S256x1 32)
    (v : FVec Ideal (Cols w) .f32) (r : Fin 256) (c : Fin w) (k : ℕ) (hn : n (ix2 r 0) = BitVec.ofNat 32 k) (hlo : lo ≤ k) (hk : k < 2048)
    (hw : w ≤ 2048) : pick w lo n v (ix2 r c) = if lo + c = k then v (ix2 r c) else 0 := by
  unfold pick
  pointwise
  rw [hn]
  have hiff := word_eq_iff hlo hk (c.isLt.trans_le hw)
  unfold Scalar.select IntOp.cmpi IntOp.subi
  by_cases h : lo + (c : ℕ) = k
  · rw [if_pos h, hiff.2 h]; simp
  · rw [if_neg h, beq_eq_false_iff_ne.2 (mt hiff.1 h)]; rfl

/-- `next` at a row, in terms of the sum over the row of what `pick` left. -/
theorem next_apply (w : ℕ) (n : IVec S256x1 32) (p : FVec Ideal (Cols w) .f32) (r : Fin 256) (k : ℕ)
    (hn : n (ix2 r 0) = BitVec.ofNat 32 k) :
    next w n p (ix2 r 0) = BitVec.ofNat 32 (2 * k + 1 + if 0 < ∑ c : Fin w, p (ix2 r c) then 1 else 0) := by
  unfold next
  pointwise
  rw [hn]
  unfold IntOp.addi IntOp.muli
  by_cases h : 0 < ∑ c : Fin w, p (ix2 r c)
  · rw [if_pos h, decide_eq_true h, BitVec.ofNat_add, BitVec.ofNat_add, BitVec.ofNat_mul]; rfl
  · rw [if_neg h, decide_eq_false h, BitVec.ofNat_add, BitVec.ofNat_add, BitVec.ofNat_mul]; rfl

/-- The one term that survives `pick` is the row's sum. -/
theorem sum_pick {w lo k : ℕ} (s : ℕ → EReal) (hlo : lo ≤ k) (hk : k < lo + w) :
    (∑ c : Fin w, if lo + (c : ℕ) = k then s (lo + c) else 0) = s k := by
  rw [Finset.sum_eq_single (⟨k - lo, by omega⟩ : Fin w)]
  · simp [Nat.add_sub_cancel' hlo]
  · intro c _ hc
    refine if_neg fun h => hc (Fin.ext ?_)
    show (c : ℕ) = k - lo
    omega
  · exact fun h => absurd (Finset.mem_univ _) h

/-- Row `r` stands, at step `d` of its walk, on the node `n` names. -/
def Stands (s : Fin 256 → ℕ → EReal) (d : ℕ) (n : IVec S256x1 32) : Prop :=
  ∀ r, n (ix2 r 0) = BitVec.ofNat 32 (walk (s r) d)

/-- `v` holds the scores of the `w` nodes from `lo` on. -/
def Scores (s : Fin 256 → ℕ → EReal) (w lo : ℕ) (v : FVec Ideal (Cols w) .f32) : Prop :=
  ∀ r (c : Fin w), v (ix2 r c) = s r (lo + c)

variable {s : Fin 256 → ℕ → EReal} {d w lo : ℕ} {n : IVec S256x1 32} {v : FVec Ideal (Cols w) .f32}

/-- `pick` leaves, on level `d`, the coefficient of every node of the level. -/
theorem pick_level (hd : d < 11) (hw : w = 2 ^ d) (hlo : lo + 1 = 2 ^ d) (hn : Stands s d n) (hv : Scores s w lo v) (r : Fin 256) (c : Fin w) :
    pick w lo n v (ix2 r c) = coeff (s r) (lo + c) := by
  have hl := walk_level (s r) d
  have hp : 2 ^ d ≤ 2048 := Nat.pow_le_pow_right (n := 2) (by omega) (show d ≤ 11 by omega)
  have hlt := walk_lt (s r) hd
  have hc := c.isLt
  rw [pick_apply w lo n v r c _ (hn r) (by omega) (by omega) (by omega), hv r c,
    coeff_level (s r) hd (by omega) (by rw [pow_succ]; omega)]

/-- `next` after `pick` stands on the node of the following step. -/
theorem next_level (hd : d < 11) (hw : w = 2 ^ d) (hlo : lo + 1 = 2 ^ d) (hn : Stands s d n) (hv : Scores s w lo v) :
    Stands s (d + 1) (next w n (pick w lo n v)) := by
  intro r
  have hl := walk_level (s r) d
  have hp : 2 ^ d ≤ 2048 := Nat.pow_le_pow_right (n := 2) (by omega) (show d ≤ 11 by omega)
  have hlt := walk_lt (s r) hd
  rw [pow_succ] at hl
  rw [next_apply w n _ r _ (hn r)]
  have hs : ∑ c : Fin w, pick w lo n v (ix2 r c) = s r (walk (s r) d) := by
    rw [← sum_pick (s r) (w := w) (lo := lo) (k := walk (s r) d) (by omega) (by omega)]
    refine Finset.sum_congr rfl fun c _ => ?_
    rw [pick_apply w lo n v r c _ (hn r) (by omega) (by omega) (by omega), hv r c]
  rw [hs]
  rfl

end Cert.KernelIdeal.Value

end
-- ==== Proof.Payloads.lean ====
/- The program's payloads at its eleven levels are `pick` and `next`: one equation per payload, each by unfolding it. -/
module

public import proofs.«01_k».proof.Proof.Level
public import Idealize.ShloMosaic.Lib.Pipeline.Value

@[expose] public section

set_option maxRecDepth 16384

noncomputable section

namespace Cert.KernelIdeal.Value

open Cert.KernelIdeal Cert.KernelIdeal.Gen Idealize.ShloMosaic Idealize.ShloMosaic.TcCoe Idealize.SL.Sem

variable (n m q : IVec S256x1 32) (f : FVec Ideal S256x1 .f32) (a : FVec Ideal S256x1 .f32) (b : FVec Ideal S256x2 .f32)
  (c : FVec Ideal S256x4 .f32) (d : FVec Ideal S256x8 .f32) (e : FVec Ideal S256x16 .f32) (g : FVec Ideal S256x32 .f32)
  (h : FVec Ideal S256x64 .f32) (i : FVec Ideal S256x128 .f32) (j : FVec Ideal S256x256 .f32) (k : FVec Ideal S256x512 .f32)
  (l : FVec Ideal S256x1024 .f32) (t : IVec S256x64 1) (z : FVec Ideal S256x64 .f32) (o : IVec S256x256 32)

/-! ### The scores kept at each level -/

/-- The scores that level 0 keeps are `pick` on its columns: there one column spreads to one column. -/
theorem sel0 : k0_pay7 (F := Ideal) a = pick 1 0 k0_pay6 a := by
  have hb : broadcastTo (Cols 1) (subi k0_pay6 (broadcast S256x1 (BitVec.ofNat 32 0))) (bro 1)
      = subi k0_pay6 (broadcast S256x1 (BitVec.ofNat 32 0)) := by
    funext x; idx_vars x; pointwise; simp [Subsingleton.elim x1 0]
  unfold pick; rw [hb]; rfl
/-- The scores that level 1 keeps are `pick` on its columns. -/
theorem sel1 : k0_pay12 (F := Ideal) n f m b = pick 2 1 (k0_pay11 (F := Ideal) n f m) b := rfl
/-- The scores that level 2 keeps are `pick` on its columns. -/
theorem sel2 : k0_pay15 (F := Ideal) n f m b c = pick 4 3 (k0_pay14 (F := Ideal) n f m b) c := rfl
/-- The scores that level 3 keeps are `pick` on its columns. -/
theorem sel3 : k0_pay18 (F := Ideal) n c d = pick 8 7 (k0_pay17 (F := Ideal) n c) d := rfl
/-- The scores that level 4 keeps are `pick` on its columns. -/
theorem sel4 : k0_pay21 (F := Ideal) n c d e = pick 16 15 (k0_pay20 (F := Ideal) n c d) e := rfl
/-- The scores that level 5 keeps are `pick` on its columns. -/
theorem sel5 : k0_pay24 (F := Ideal) n e g = pick 32 31 (k0_pay23 (F := Ideal) n e) g := rfl
/-- The scores that level 6 keeps are `pick` on its columns. -/
theorem sel6 : k0_pay29 (F := Ideal) h (k0_pay27 (F := Ideal) n e g) (k0_pay28 (F := Ideal)) = pick 64 63 (k0_pay26 (F := Ideal) n e g) h := rfl
/-- The scores that level 7 keeps are `pick` on its columns. -/
theorem sel7 : k0_pay32 (F := Ideal) n h t z i = pick 128 127 (k0_pay31 (F := Ideal) n h t z) i := rfl
/-- The scores that level 8 keeps are `pick` on its columns. -/
theorem sel8 (ho : o = iota .tc S256x256 32 [1] iota_S256x256_d1_w32) :
    k0_pay36 (F := Ideal) j (k0_pay35 (F := Ideal) n h t z i) o = pick 256 255 (k0_pay34 (F := Ideal) n h t z i) j := by
  subst ho; rfl
/-- The scores that level 9 keeps are `pick` on its columns. -/
theorem sel9 : k0_pay39 (F := Ideal) n j q o k = pick 512 511 (k0_pay38 (F := Ideal) n j q o) k := rfl
/-- The scores that level 10 keeps are `pick` on its columns. -/
theorem sel10 : k0_pay1 (F := Ideal) n l = pick 1024 1023 n l := shapeCast_self _ _

/-! ### The node moved to at each level -/

/-- The node that level 0 moves to is `next` on what it kept. -/
theorem next0 : k0_pay11 (F := Ideal) n (k0_pay9 (F := Ideal) a) k0_pay10 = next 1 n (k0_pay7 (F := Ideal) a) := rfl
/-- The node that level 1 moves to is `next` on what it kept. -/
theorem next1 : k0_pay14 (F := Ideal) n f m b = next 2 (k0_pay11 (F := Ideal) n f m) (k0_pay12 (F := Ideal) n f m b) := rfl
/-- The node that level 2 moves to is `next` on what it kept. -/
theorem next2 : k0_pay17 (F := Ideal) n c = next 4 n c := rfl
/-- The node that level 3 moves to is `next` on what it kept. -/
theorem next3 : k0_pay20 (F := Ideal) n c d = next 8 (k0_pay17 (F := Ideal) n c) (k0_pay18 (F := Ideal) n c d) := rfl
/-- The node that level 4 moves to is `next` on what it kept. -/
theorem next4 : k0_pay23 (F := Ideal) n e = next 16 n e := rfl
/-- The node that level 5 moves to is `next` on what it kept. -/
theorem next5 : k0_pay26 (F := Ideal) n e g = next 32 (k0_pay23 (F := Ideal) n e) (k0_pay24 (F := Ideal) n e g) := rfl
/-- The node that level 6 moves to is `next` on what it kept. -/
theorem next6 : k0_pay31 (F := Ideal) n h t z = next 64 n (k0_pay29 (F := Ideal) h t z) := rfl
/-- The node that level 7 moves to is `next` on what it kept. -/
theorem next7 : k0_pay34 (F := Ideal) n h t z i = next 128 (k0_pay31 (F := Ideal) n h t z) (k0_pay32 (F := Ideal) n h t z i) := rfl
/-- The node that level 8 moves to is `next` on what it kept. -/
theorem next8 : k0_pay38 (F := Ideal) n j q o = next 256 n (k0_pay36 (F := Ideal) j q o) := rfl
/-- The node that level 9 moves to is `next` on what it kept. -/
theorem next9 : k0_pay41 (F := Ideal) n j q o k = next 512 (k0_pay38 (F := Ideal) n j q o) (k0_pay39 (F := Ideal) n j q o k) := rfl

/-! ### What each level stores -/

/-- Level 0 stores what it kept. -/
theorem store0 : k0_pay8 (F := Ideal) a = k0_pay7 (F := Ideal) a := shapeCast_self _ _
/-- Level 1 stores what it kept. -/
theorem store1 : k0_pay13 (F := Ideal) n f m b = k0_pay12 (F := Ideal) n f m b := shapeCast_self _ _
/-- Level 2 stores what it kept. -/
theorem store2 : k0_pay16 (F := Ideal) n f m b c = k0_pay15 (F := Ideal) n f m b c := shapeCast_self _ _
/-- Level 3 stores what it kept. -/
theorem store3 : k0_pay19 (F := Ideal) n c d = k0_pay18 (F := Ideal) n c d := shapeCast_self _ _
/-- Level 4 stores what it kept. -/
theorem store4 : k0_pay22 (F := Ideal) e = e := shapeCast_self _ _
/-- Level 5 stores what it kept. -/
theorem store5 : k0_pay25 (F := Ideal) n e g = k0_pay24 (F := Ideal) n e g := shapeCast_self _ _
/-- Level 6 stores what it kept. -/
theorem store6 : k0_pay30 (F := Ideal) h t z = k0_pay29 (F := Ideal) h t z := shapeCast_self _ _
/-- Level 7 stores what it kept. -/
theorem store7 : k0_pay33 (F := Ideal) n h t z i = k0_pay32 (F := Ideal) n h t z i := shapeCast_self _ _
/-- Level 8 stores what it kept. -/
theorem store8 : k0_pay37 (F := Ideal) j q o = k0_pay36 (F := Ideal) j q o := shapeCast_self _ _
/-- Level 9 stores what it kept. -/
theorem store9 : k0_pay40 (F := Ideal) n j q o k = k0_pay39 (F := Ideal) n j q o k := shapeCast_self _ _

end Cert.KernelIdeal.Value

end
-- ==== Proof.Block.lean ====
/- What the body leaves in the result's block at one grid point: the product of the coefficient buffer with the second weight matrix, the
   coefficient buffer being zeros over which the eleven levels are stored, each level read from the buffer of all scores. -/
module

public import proofs.«01_k».proof.Proof.Payloads
public import proofs.«01_k».proof.Proof.Gen.KernelIdeal.Value
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Cert.Tree

/-- The `w` columns of a block from column `lo` on. -/
def cols (L : FVec Ideal S256x2048 .f32) (lo w : ℕ) : FVec Ideal (Cols w) .f32 :=
  fun j => if h : lo + (j 1 : ℕ) < 2048 then L (ix2 (j 0) ⟨lo + (j 1 : ℕ), h⟩) else 0

/-- A load of some columns of a buffer is those columns of what the buffer's stores left. -/
theorem load_cols {sig : RefSig} {κ : Kind} {sp : Space} (v : View sig κ sp S256x2048 .f32)
    (P : List (View.Piece (Elt Ideal) S256x2048 .f32)) (lo w : ℕ) (h : ∀ a, ![0, lo] a + ![256, w] a ≤ S256x2048.size a) :
    v.readCov P (Rect.unit (s := S256x2048) ![0, lo] ![256, w] h).toLoadRect = cols (View.canon P) lo w := by
  rw [View.readCov_eq_canon']
  funext j
  have hb : lo + (j 1 : ℕ) < 2048 := (Nat.add_lt_add_left (j 1).isLt lo).trans_le (h 1)
  unfold cols
  rw [dif_pos hb]
  refine congrArg _ (funext fun a => Fin.ext ?_)
  match a with
  | 0 => show 0 + 1 * (j 0 : ℕ) = (j 0 : ℕ); omega
  | 1 => show lo + 1 * (j 1 : ℕ) = lo + (j 1 : ℕ); omega

/-- All the columns are the buffer. -/
theorem cols_all (L : FVec Ideal S256x2048 .f32) : cols L 0 2048 = L := by
  funext j
  have hb : 0 + (j 1 : ℕ) < 2048 := by have := (j 1).isLt; simpa using this
  unfold cols
  rw [dif_pos hb]
  refine congrArg _ (funext fun a => Fin.ext ?_)
  match a with
  | 0 => rfl
  | 1 => exact Nat.zero_add _

/-- The node each row stands on after `d` levels, the scores read from the buffer `L`. -/
def node (L : FVec Ideal S256x2048 .f32) : ℕ → IVec S256x1 32
  | 0 => k0_pay6
  | d + 1 => next (2 ^ d) (node L d) (pick (2 ^ d) (2 ^ d - 1) (node L d) (cols L (2 ^ d - 1) (2 ^ d)))

/-- One level leads from the node of a step to the node of the next, the level's width and first node being spelt as numbers. -/
theorem fold (L : FVec Ideal S256x2048 .f32) (d w lo : ℕ) (hw : w = 2 ^ d) (hlo : lo = 2 ^ d - 1) :
    next w (node L d) (pick w lo (node L d) (cols L lo w)) = node L (d + 1) := by
  subst hw hlo; rfl

/-- What level `d` stores. -/
def level (L : FVec Ideal S256x2048 .f32) (d : ℕ) : FVec Ideal (Cols (2 ^ d)) .f32 :=
  pick (2 ^ d) (2 ^ d - 1) (node L d) (cols L (2 ^ d - 1) (2 ^ d))

/-- The buffer of all scores of a block: the first half of the nodes, then the second. -/
def scores (x : FVec Ideal S256x2048 .f32) (w : FVec Ideal S2048x2048 .f32) : FVec Ideal S256x2048 .f32 :=
  View.canon (Val := Elt Ideal) (e := .f32)
    [⟨Rect.unit ![0, 1024] ![256, 1024] inb_S256x2048_S256x1024_0_1024,
        k0_pay4 x (View.ld (Val := Elt Ideal) (e' := .f32) w (Rect.unit ![1024, 0] ![1024, 2048] inb_S2048x2048_S1024x2048_1024_0))⟩,
      ⟨Rect.unit ![0, 0] ![256, 1024] inb_S256x2048_S256x1024_0_0,
        k0_pay3 x (View.ld (Val := Elt Ideal) (e' := .f32) w (Rect.unit ![0, 0] ![1024, 2048] inb_S2048x2048_S1024x2048_0_0))⟩]

/-- The stores that fill the buffer of all scores, spelt out. -/
theorem canon_scores (x : FVec Ideal S256x2048 .f32) (w : FVec Ideal S2048x2048 .f32) :
    View.canon (Val := Elt Ideal) (e := .f32)
      [⟨Rect.unit ![0, 1024] ![256, 1024] inb_S256x2048_S256x1024_0_1024,
          k0_pay4 x (View.ld (Val := Elt Ideal) (e' := .f32) w (Rect.unit ![1024, 0] ![1024, 2048] inb_S2048x2048_S1024x2048_1024_0))⟩,
        ⟨Rect.unit ![0, 0] ![256, 1024] inb_S256x2048_S256x1024_0_0,
          k0_pay3 x (View.ld (Val := Elt Ideal) (e' := .f32) w (Rect.unit ![0, 0] ![1024, 2048] inb_S2048x2048_S1024x2048_0_0))⟩]
      = scores x w := rfl

/-- The store of level `d` into the coefficient buffer. -/
def piece (L : FVec Ideal S256x2048 .f32) (d : Fin 11) : View.Piece (Elt Ideal) S256x2048 .f32 :=
  ⟨Rect.unit ![0, 2 ^ (d : ℕ) - 1] ![256, 2 ^ (d : ℕ)] (by revert d; decide), level L d⟩

/-- The coefficient buffer: the eleven levels stored over zeros, the last level's store first. -/
def coeffs (L : FVec Ideal S256x2048 .f32) : FVec Ideal S256x2048 .f32 :=
  View.canon (Val := Elt Ideal) (e := .f32) (((List.finRange 11).reverse.map (piece L)) ++
    [⟨Rect.unit ![0, 0] ![256, 2048] inb_S256x2048_S256x2048_0_0, k0_pay5 (F := Ideal)⟩])

variable (m : (ℓ : Loc nD τ sig) → Buf (Elt Ideal) ℓ)

/-- What the body leaves in the result's block, from the three input blocks. -/
theorem outsAt_eq (c : Dev nD) (t : Fin cfg0.N) : outsAt0 m c t =
    k0_pay2 (F := Ideal) (coeffs (scores (iblk m c 0 t) (iblk m c 1 t))) (iblk m c 2 t) := by
  unfold outsAt0 out0_A_3
  rw [View.read_writes_eq_canon _ _ _ (cover0_A_3 c _ _ _ _ _ _ _ _ _ _ _ _ _ _ _ _)]
  unfold kernelRun0_A
  dsimp only
  sl_unfold_words
  simp (disch := decide) only [View.readAt_eq_ld, (hs0_0 t).read_unread, (hs0_1 t).read_unread, (hs0_2 t).read_unread, load_cols,
    View.canon_cons_unit_lit, View.ld_unit_lit, canon_scores]
  simp (disch := rfl) only [store0, store1, store2, store3, store4, store5, store6, store7, store8, store9, sel0, sel1, sel2, sel3, sel4, sel5, sel6, sel7,
    sel8, sel9, sel10, next0, next1, next2, next3, next4, next5, next6, next7, next8, next9]
  generalize scores (iblk m c 0 t) (iblk m c 1 t) = L
  have h0 := fold L 0 1 0 rfl rfl
  rw [show node L 0 = k0_pay6 from rfl] at h0
  simp only [h0, fold L 1 2 1 rfl rfl, fold L 2 4 3 rfl rfl, fold L 3 8 7 rfl rfl, fold L 4 16 15 rfl rfl, fold L 5 32 31 rfl rfl,
    fold L 6 64 63 rfl rfl, fold L 7 128 127 rfl rfl, fold L 8 256 255 rfl rfl, fold L 9 512 511 rfl rfl, cols_all]
  rfl

end Cert.KernelIdeal.Value

end
-- ==== Proof.Network.lean ====
/- The network as numbers: each input row walks down the tree, its score at a node being its inner product with the node's row of the first
   weight matrix, and the result row is the sum, over the eleven nodes of the walk, of the score times the node's row of the second matrix. -/
module

public import proofs.«01_k».proof.Proof.Tree
public import Idealize.ShloMosaic.Lib.Pointwise

@[expose] public section

noncomputable section

namespace Cert.Tree

open Idealize.ShloMosaic

/-- A matrix of `n` rows of 2048 numbers. -/
abbrev Mat (n : ℕ) : Type := (⟨2, ![n, 2048]⟩ : Shape).Idx → EReal

variable {b n : ℕ}

/-- Row `j` of a matrix, zero past its last row. -/
def row (w : Mat n) (j : ℕ) (k : Fin 2048) : EReal := if h : j < n then w (ix2 ⟨j, h⟩ k) else 0

/-- A row within the matrix. -/
theorem row_fin (w : Mat n) (j : Fin n) (k : Fin 2048) : row w j k = w (ix2 j k) := dif_pos j.isLt

/-- A row past the last. -/
theorem row_past (w : Mat n) {j : ℕ} (hj : n ≤ j) (k : Fin 2048) : row w j k = 0 := dif_neg (by omega)

/-- The score of input row `i` at node `j`. -/
def score (x : Mat b) (w : Mat n) (i : Fin b) (j : ℕ) : EReal := ∑ k : Fin 2048, x (ix2 i k) * row w j k

/-- The network's result. -/
def fff (x : Mat b) (w1 w2 : Mat n) : Mat b := fun y =>
  ∑ d : Fin 11, score x w1 (y 0) (walk (score x w1 (y 0)) d) * row w2 (walk (score x w1 (y 0)) d) (y 1)

/-- The network's result at a row and a column. -/
theorem fff_ix2 (x : Mat b) (w1 w2 : Mat n) (i : Fin b) (o : Fin 2048) : fff x w1 w2 (ix2 i o) =
    ∑ d : Fin 11, score x w1 i (walk (score x w1 i) d) * row w2 (walk (score x w1 i) d) o := rfl

/-- Matrices with the same rows give the same result row, from the same input row. -/
theorem fff_congr {b' n' : ℕ} {x : Mat b} {x' : Mat b'} {w1 w2 : Mat n} {w1' w2' : Mat n'} {i : Fin b} {i' : Fin b'}
    (hx : ∀ k, x (ix2 i k) = x' (ix2 i' k)) (h1 : row w1 = row w1') (h2 : row w2 = row w2') (o : Fin 2048) :
    fff x w1 w2 (ix2 i o) = fff x' w1' w2' (ix2 i' o) := by
  have hs : score x w1 i = score x' w1' i' := by
    funext j
    exact Finset.sum_congr rfl fun k _ => by rw [hx, h1]
  rw [fff_ix2, fff_ix2, hs, h2]

end Cert.Tree

end
-- ==== Proof.BlockValue.lean ====
/- The block of a grid point as numbers. For each row of the block, the coefficient buffer holds the score of every node on the row's walk
   and zero at every other node, so the product with the second weight matrix is the sum of eleven weighted rows of it. -/
module

public import proofs.«01_k».proof.Proof.Block
public import proofs.«01_k».proof.Proof.Network

@[expose] public section

set_option maxRecDepth 16384

noncomputable section

namespace Cert.KernelIdeal.Value

open Cert.KernelIdeal Cert.KernelIdeal.Gen Idealize.ShloMosaic Idealize.ShloMosaic.TcCoe Idealize.SL.Sem
open Cert.Tree

/-- A score of the block: the inner product of a row of the input with a row of the first weight matrix. -/
theorem scores_apply (z : FVec Ideal S256x2048 .f32) (w : FVec Ideal S2048x2048 .f32) (r : Fin 256) (j : Fin 2048) :
    scores z w (ix2 r j) = ∑ k : Fin 2048, z (ix2 r k) * w (ix2 j k) := by
  unfold scores
  canon_tiles x h
  · pointwise [k0_pay4] at h0 h1 ⊢
    obtain rfl : r = x 0 := Fin.ext h0
    have hj : j = ⟨1024 + (x 1 : ℕ), h1 ▸ j.isLt⟩ := Fin.ext h1
    exact Finset.sum_congr rfl fun k _ => by rw [hj]
  · pointwise [k0_pay3] at h0 h1 ⊢
    obtain rfl : r = x 0 := Fin.ext h0
    have hj : j = ⟨(x 1 : ℕ), h1 ▸ j.isLt⟩ := Fin.ext h1
    exact Finset.sum_congr rfl fun k _ => by rw [hj]

/-- Stores that all agree with one function `G`, made over earlier stores `P'`, leave `G` wherever `P'` left `G` or a store covers. -/
theorem canon_over {S : Shape} {e : EltTy} (G : S.Idx → Elt Ideal e) (P' : List (View.Piece (Elt Ideal) S e)) (y : S.Idx) :
    ∀ P : List (View.Piece (Elt Ideal) S e), (∀ p ∈ P, ∀ x : p.1.shape.Idx, p.2 x = G (p.1.emb x)) →
      ((∀ p ∈ P, y ∉ p.1.set) → View.canon P' y = G y) → View.canon (P ++ P') y = G y
  | [], _, h => h (by simp)
  | p :: P, hP, h => by
    rw [List.cons_append]
    by_cases hm : y ∈ p.1.set
    · obtain ⟨x, rfl⟩ := p.1.exists_idx_of_mem hm
      exact (View.canon_cons_emb _ _ _ x).trans (hP p List.mem_cons_self x)
    · rw [View.canon_cons_of_not_mem _ _ hm]
      refine canon_over G P' y P (fun q hq => hP q (List.mem_cons_of_mem _ hq)) fun hn => h fun q hq => ?_
      rcases List.mem_cons.1 hq with rfl | hq
      · exact hm
      · exact hn q hq

variable {s : Fin 256 → ℕ → EReal} {L : FVec Ideal S256x2048 .f32}

/-- The columns of a level are the scores of the level's nodes. -/
theorem cols_scores (hL : ∀ r (j : Fin 2048), L (ix2 r j) = s r j) {d : ℕ} (hd : d < 11) :
    Scores s (2 ^ d) (2 ^ d - 1) (cols L (2 ^ d - 1) (2 ^ d)) := by
  intro r c
  have hp : 2 ^ d ≤ 1024 := Nat.pow_le_pow_right (n := 2) (by omega) (show d ≤ 10 by omega)
  have hc := c.isLt
  have hb : 2 ^ d - 1 + (c : ℕ) < 2048 := by omega
  unfold cols
  exact (dif_pos hb).trans (hL r ⟨_, hb⟩)

/-- Before level `d` every row stands on the node its walk meets at step `d`. -/
theorem node_stands (hL : ∀ r (j : Fin 2048), L (ix2 r j) = s r j) {d : ℕ} (hd : d < 11) : Stands s d (node L d) := by
  induction d with
  | zero => intro r; rfl
  | succ d ih =>
    exact next_level (by omega) rfl (Nat.sub_add_cancel Nat.one_le_two_pow) (ih (by omega)) (cols_scores hL (by omega))

/-- The coefficient buffer holds, in each row, the coefficients of the row's walk. -/
theorem coeffs_apply (hL : ∀ r (j : Fin 2048), L (ix2 r j) = s r j) (r : Fin 256) (j : Fin 2048) :
    coeffs L (ix2 r j) = coeff (s r) j := by
  refine canon_over (e := .f32) (fun y : S256x2048.Idx => (coeff (s (y 0)) (y 1 : ℕ) : EReal)) _ (ix2 r j) _ ?_ fun hn => ?_
  · intro p hp x
    obtain ⟨d, -, rfl⟩ := List.mem_map.1 hp
    obtain ⟨a, b, rfl⟩ : ∃ (a : Fin 256) (b : Fin (2 ^ (d : ℕ))), x = ix2 a b := ⟨x 0, x 1, eq_ix2 x⟩
    refine (pick_level d.isLt rfl (Nat.sub_add_cancel Nat.one_le_two_pow) (node_stands hL d.isLt) (cols_scores hL d.isLt) a b).trans ?_
    have h0 : (piece L d).1.emb (ix2 a b) 0 = a := Fin.ext (show 0 + 1 * (a : ℕ) = a by omega)
    have h1 : ((piece L d).1.emb (ix2 a b) 1 : ℕ) = 2 ^ (d : ℕ) - 1 + b := show 2 ^ (d : ℕ) - 1 + 1 * (b : ℕ) = _ by omega
    show _ = coeff (s ((piece L d).1.emb (ix2 a b) 0)) ((piece L d).1.emb (ix2 a b) 1 : ℕ)
    rw [h0, h1]
  · have hz : coeff (s r) j = 0 := by
      by_contra hne
      obtain ⟨d, hd, e⟩ := onWalk_of_coeff_ne (s r) hne
      have hl := walk_level (s r) d
      rw [e, pow_succ] at hl
      refine hn (piece L ⟨d, hd⟩) (List.mem_map.2 ⟨_, by simp, rfl⟩) ?_
      rw [piece, Rect.mem_set_unit]
      intro a
      match a with
      | 0 => exact ⟨Nat.zero_le _, by simpa using r.isLt⟩
      | 1 => exact ⟨show 2 ^ d - 1 ≤ (j : ℕ) by omega, show (j : ℕ) < 2 ^ d - 1 + 2 ^ d by omega⟩
    show _ = coeff (s r) j
    rw [hz, View.canon_unit_zero (by funext a; match a with | 0 => rfl | 1 => rfl)]
    pointwise [k0_pay5]

/-- What the body leaves in the result's block is the network on the block's rows. -/
theorem block_apply (x : FVec Ideal S256x2048 .f32) (w1 w2 : FVec Ideal S2048x2048 .f32) :
    k0_pay2 (F := Ideal) (coeffs (scores x w1)) w2 = fff x w1 w2 := by
  have hL : ∀ r (j : Fin 2048), scores x w1 (ix2 r j) = score x w1 r j := fun r j => by
    rw [scores_apply, score]
    exact Finset.sum_congr rfl fun k _ => by rw [row_fin]
  funext y
  idx_vars y
  pointwise [k0_pay2]
  refine Eq.trans ?_ (sum_coeff (score x w1 y0) fun j => row w2 j y1)
  exact Finset.sum_congr rfl fun j _ => by rw [coeffs_apply hL, row_fin]

end Cert.KernelIdeal.Value

end
-- ==== Proof.KernelValue.lean ====
/- The kernel's result array: point `t` of the grid writes the network on rows `256 t … 256 t + 255` of the input, against the two weight
   matrices padded with one zero row, so the array it leaves is the network on the arguments. -/
module

public import proofs.«01_k».proof.Proof.BlockValue

@[expose] public section

set_option maxRecDepth 16384

noncomputable section

namespace Cert.KernelIdeal.Value

open Cert.KernelIdeal Cert.KernelIdeal.Gen Idealize.ShloMosaic Idealize.ShloMosaic.TcCoe Idealize.SL.Sem
open Cert.Tree

variable (m : (ℓ : Loc nD τ sig) → Buf (Elt Ideal) ℓ)

/-- The block every window is at, point by point. -/
theorem idx : ∀ t : Fin cfg0.N, win0_0.index t = ![t.val, 0] ∧ win0_1.index t = ![0, 0] ∧ win0_2.index t = ![0, 0] ∧
    win0_3.index t = ![t.val, 0] := (by decide +kernel : ∀ t : Fin grid0.N, _)

/-- The rows of the input's block are rows of the input. -/
theorem rows_x (c : Dev nD) (t : Fin cfg0.N) (r : Fin 256) (i : Fin 16384) (hi : (i : ℕ) = 256 * t + r) (k : Fin 2048) :
    iblk m c 0 t (ix2 r k) = m ((c : Thread nD τ).loc main_arg0) (ix2 i k) := by
  blk_point [iblk, V, idx t]

/-- The blocks of the two weight matrices are the padded matrices whole. -/
theorem block_w (c : Dev nD) (t : Fin cfg0.N) (j k : Fin 2048) :
    iblk m c 1 t (ix2 j k) = V m c main_v0 (ix2 j k) ∧ iblk m c 2 t (ix2 j k) = V m c main_v1 (ix2 j k) := by
  constructor <;> blk_point [iblk, idx t]

/-- A matrix of 2047 rows padded with one row of the number zero. -/
theorem pad_row (w : FVec Ideal S2047x2048 .f32) (j k : Fin 2048) :
    pad S2048x2048 ![0, 0] ![1, 0] ![0, 0] w (sitofp .f32 (constantI S_ 32 0#32)) pads_S2047x2048_S2048x2048_010_000 h_S_ (ix2 j k) =
      row (n := 2047) w j k := by
  pointwise [row]
  rw [show FloatOps.sitofp (F := Ideal) .f32 (0#32 : BitVec 32) = (0 : EReal) from by
    show (((0#32 : BitVec 32).toInt : ℝ) : EReal) = 0
    simp]

/-- The padded matrices are the matrices and a row of zeros. -/
theorem padded (c : Dev nD) (j k : Fin 2048) :
    V m c main_v0 (ix2 j k) = row (n := 2047) (m ((c : Thread nD τ).loc main_arg1)) j k ∧
    V m c main_v1 (ix2 j k) = row (n := 2047) (m ((c : Thread nD τ).loc main_arg2)) j k := by
  constructor
  all_goals
    simp only [V, List.flatten_cons, List.flatten_nil, List.append_nil, List.cons_append, List.nil_append]
    entry_read
    exact pad_row _ j k

/-- So the rows a point reads of a weight matrix are the matrix's own, zero past the last. -/
theorem rows_w (c : Dev nD) (t : Fin cfg0.N) :
    row (n := 2048) (iblk m c 1 t) = row (n := 2047) (m ((c : Thread nD τ).loc main_arg1)) ∧
    row (n := 2048) (iblk m c 2 t) = row (n := 2047) (m ((c : Thread nD τ).loc main_arg2)) := by
  constructor <;> funext j k <;> by_cases hj : j < 2048
  · exact (dif_pos hj).trans ((block_w m c t ⟨j, hj⟩ k).1.trans (padded m c ⟨j, hj⟩ k).1)
  · rw [row_past _ (by omega), row_past _ (by omega)]
  · exact (dif_pos hj).trans ((block_w m c t ⟨j, hj⟩ k).2.trans (padded m c ⟨j, hj⟩ k).2)
  · rw [row_past _ (by omega), row_past _ (by omega)]

/-- The array the kernel leaves is the network on the arguments. -/
theorem final (c : Dev nD) : (dats m 0 c).arrAt 3 cfg0.N =
    fff (b := 16384) (n := 2047) (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3, outsAt_eq, block_apply]
  obtain ⟨r, o, rfl⟩ : ∃ (r : Fin 256) (o : Fin 2048), y = ix2 r o := ⟨y 0, y 1, eq_ix2 y⟩
  have hi : 256 * (t : ℕ) + r < 16384 := by
    have := t.isLt
    have : cfg0.grid.N = 64 := by decide +kernel
    omega
  have he : (win0_3.blk t).view.emb (ix2 r o) = ix2 (⟨256 * t + r, hi⟩ : Fin 16384) o := by
    blk_ext [idx t]
  rw [he]
  exact fff_congr (fun k => rows_x m c t r _ rfl k) (rows_w m c t).1 (rows_w m c t).2 o

end Cert.KernelIdeal.Value

end
-- ==== Proof.RefTake.lean ====
/- The operations of one level of the reference, each read at an index: the rows it takes of a weight matrix at the nodes the inputs stand on,
   the scores against those rows, the step to a child, and the level's share of the result. -/
module

public import proofs.«01_k».proof.Proof.Gen.ReferenceIdeal.Run
public import proofs.«01_k».proof.Proof.Network
public import Idealize.ShloMosaic.Lib.Pointwise
public import Idealize.ShloMosaic.Lib.Pointwise.IndexVar
public import Idealize.ShloMosaic.Lib.ReduceAll
public import Idealize.ShloMosaic.Lib.StableHlo.Predicate
public import Idealize.ShloMosaic.Lib.WordCmp

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Tree

/-- The start indices of a take at the nodes `n`, a negative node counting from the end. -/
def starts (n : IVec S16384 32) : IVec S16384x1 32 :=
  broadcastInDim S16384x1 ![0] bcast_S16384_S16384x1_0 (select (cmpi .slt n (broadcastInDim S16384 ![] bcast_S_S16384 (constantI S_ 32 0#32)))
    (addi n (broadcastInDim S16384 ![] bcast_S_S16384 (constantI S_ 32 2047#32))) n)

/-- Whether each start index is a row of the matrix. -/
def inside (i : IVec S16384x1 32) : IVec S16384 1 :=
  Host.reduce IntOp.andi (andi (cmpi .sge i (broadcastInDim S16384x1 ![] bcast_S_S16384x1 (constantI S_ 32 0#32)))
    (cmpi .sle i (broadcastInDim S16384x1 ![0, 1] bcast_S1x1_S16384x1_0_1 (broadcastInDim S1x1 ![1] bcast_S1_S1x1_1 (constantI S1 32 2046#32)))))
    (constantI S_ 1 1#1) reducesTo_S16384x1_S16384_d1 h_S_

/-- The rows of `w` at start indices `i`, one per input, with a filler where an index is no row. -/
def take (w : FVec Ideal S2047x2048 .f32) (i : IVec S16384x1 32) : FVec Ideal S16384x2048 .f32 :=
  select (broadcastInDim S16384x2048 ![0] bcast_S16384_S16384x2048_0 (inside i))
    (Host.gather gather_S2047x2048_S16384x1_S16384x2048_1_0_n_n_0_1_12048 w i)
    (broadcastInDim S16384x2048 ![] bcast_S_S16384x2048 (constant S_ .f32 0x7FC00000#32))

/-- The score of every input at the node it stands on. -/
def lam (x : FVec Ideal S16384x2048 .f32) (w : FVec Ideal S2047x2048 .f32) (n : IVec S16384 32) : FVec Ideal S16384 .f32 :=
  Host.dotGeneral dot_S16384x2048_S16384x2048_S16384_1_1_n_n_0_0 none x (take w (starts n))

/-- The child every input moves to. -/
def step (n : IVec S16384 32) (l : FVec Ideal S16384 .f32) : IVec S16384 32 :=
  addi (addi (muli n (broadcastInDim S16384 ![] bcast_S_S16384 (constantI S_ 32 2#32)))
    (broadcastInDim S16384 ![] bcast_S_S16384 (constantI S_ 32 1#32)))
    (extui 32 (cmpf .ogt l (broadcastInDim S16384 ![] bcast_S_S16384 (constant S_ .f32 0x00000000#32))) natLt_1_32)

/-- The share of the result of one level: each input's score times its node's row of the second matrix. -/
def share (l : FVec Ideal S16384 .f32) (w : FVec Ideal S2047x2048 .f32) (n : IVec S16384 32) : FVec Ideal S16384x2048 .f32 :=
  mulf (broadcastInDim S16384x2048 ![0, 1] bcast_S16384x1_S16384x2048_0_1 (broadcastInDim S16384x1 ![0] bcast_S16384_S16384x1_0 l))
    (take w (starts n))

/-- The nodes `n` are those the walks of the scores `s` meet at step `d`. -/
def Stands (s : Fin 16384 → ℕ → EReal) (d : ℕ) (n : IVec S16384 32) : Prop := ∀ i, n (ix1 i) = BitVec.ofNat 32 (walk (s i) d)

/-- The dimension numbers of the take gather whole rows: the result at a row and a column is the operand at the start index, read signed and
    clamped, and the column. -/
theorem gather_row (w : FVec Ideal S2047x2048 .f32) (i : IVec S16384x1 32) (r : Fin 16384) (k : Fin 2048) (j : Fin 2047)
    (h : i (ix2 r (0 : Fin 1)) = BitVec.ofNat 32 j) :
    Host.gather gather_S2047x2048_S16384x1_S16384x2048_1_0_n_n_0_1_12048 w i (ix2 r k) = w (ix2 j k) := by
  unfold Host.gather
  refine congrArg w (funext fun a => Fin.ext ?_)
  set D := gather_S2047x2048_S16384x1_S16384x2048_1_0_n_n_0_1_12048
  show D.start (ix2 r k) i a + D.batchCoord (ix2 r k) a + D.offCoord (ix2 r k) a = _
  rw [GatherDims.batchCoord_eq_zero _ _ _ (fun h => by simp [D, gather_S2047x2048_S16384x1_S16384x2048_1_0_n_n_0_1_12048] at h)]
  have hs : ∀ q, D.siIdx (ix2 r k) q = ix2 r (0 : Fin 1) := fun q => by
    funext b
    match b with
    | 0 => rfl
    | 1 => exact Subsingleton.elim (α := Fin 1) _ _
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ D.startIndexMap from List.mem_singleton.mpr rfl), hs, h]
    show min (BitVec.ofNat 32 j).toInt.toNat 2046 + 0 + 0 = (j : ℕ)
    rw [StableHlo.Predicate.toInt_ofNat_small _ (by omega), Int.toNat_natCast]
    omega
  | 1 =>
    unfold GatherDims.start
    rw [dif_neg (show (1 : Fin 2) ∉ D.startIndexMap by decide)]
    show 0 + 0 + D.offCoord (ix2 r k) 1 = (k : ℕ)
    unfold GatherDims.offCoord
    rw [dif_pos (show (1 : Fin 2) ∈ D.sKept by decide)]
    exact (Nat.zero_add _).trans (show ((ix2 r k 1 : Fin 2048) : ℕ) = k from rfl)

/-- Nodes on a walk are rows, so the start indices are the nodes. -/
theorem starts_apply {s : Fin 16384 → ℕ → EReal} {d : ℕ} (hd : d < 11) {n : IVec S16384 32} (hn : Stands s d n) (r : Fin 16384) :
    starts n (ix2 r (0 : Fin 1)) = BitVec.ofNat 32 (walk (s r) d) := by
  have hw := walk_lt (s r) hd
  pointwise [starts]
  rw [hn r]
  rw [WordCmp.cmpi_slt_ofNat (by omega) (by omega)]
  simp [Scalar.select]

/-- Every start index is a row of the matrix. -/
theorem inside_apply {s : Fin 16384 → ℕ → EReal} {d : ℕ} (hd : d < 11) {n : IVec S16384 32} (hn : Stands s d n) (r : Fin 16384) :
    inside (starts n) (ix1 r) = 1#1 := by
  refine Host.reduce_andi_one _ _ _ _ _ rfl fun i => ?_
  obtain ⟨a, b, rfl⟩ : ∃ (a : Fin 16384) (b : Fin 1), i = ix2 a b := ⟨i 0, i 1, eq_ix2 i⟩
  obtain rfl : b = 0 := Subsingleton.elim _ _
  have hw := walk_lt (s a) hd
  pointwise
  rw [starts_apply hd hn]
  rw [WordCmp.cmpi_sge_ofNat (by omega) (by omega), WordCmp.cmpi_sle_ofNat (by omega) (by omega), decide_eq_true (Nat.zero_le _),
    decide_eq_true (by omega)]
  rfl

/-- The take reads, for each input, the row of the node it stands on. -/
theorem take_apply {s : Fin 16384 → ℕ → EReal} {d : ℕ} (hd : d < 11) {n : IVec S16384 32} (hn : Stands s d n)
    (w : FVec Ideal S2047x2048 .f32) (r : Fin 16384) (k : Fin 2048) :
    take w (starts n) (ix2 r k) = row (n := 2047) w (walk (s r) d) k := by
  have hw := walk_lt (s r) hd
  pointwise [take]
  rw [inside_apply hd hn, gather_row w _ r k ⟨_, hw⟩ (starts_apply hd hn r)]
  exact (row_fin w ⟨_, hw⟩ k).symm

/-- The scores are those of the network. -/
theorem lam_apply (x : FVec Ideal S16384x2048 .f32) (w : FVec Ideal S2047x2048 .f32) {d : ℕ} (hd : d < 11) {n : IVec S16384 32}
    (hn : Stands (score x w) d n) (i : Fin 16384) : lam x w n (ix1 i) = score x w i (walk (score x w i) d) := by
  pointwise [lam]
  exact Finset.sum_congr rfl fun k _ => by rw [take_apply hd hn]

/-- The step moves every input to the next node of its walk. -/
theorem step_stands {s : Fin 16384 → ℕ → EReal} {d : ℕ} (hd : d < 11) {n : IVec S16384 32} (hn : Stands s d n) {l : FVec Ideal S16384 .f32}
    (hl : ∀ i, l (ix1 i) = s i (walk (s i) d)) : Stands s (d + 1) (step n l) := by
  intro i
  pointwise [step]
  rw [hn i, hl i]
  show _ = BitVec.ofNat 32 (2 * walk (s i) d + 1 + if 0 < s i (walk (s i) d) then 1 else 0)
  unfold IntOp.addi IntOp.muli
  by_cases h : 0 < s i (walk (s i) d)
  · rw [if_pos h, decide_eq_true h, BitVec.ofNat_add, BitVec.ofNat_add, BitVec.ofNat_mul, BitVec.mul_comm]; rfl
  · rw [if_neg h, decide_eq_false h, BitVec.ofNat_add, BitVec.ofNat_add, BitVec.ofNat_mul, BitVec.mul_comm]; rfl

/-- A level's share of the result. -/
theorem share_apply {s : Fin 16384 → ℕ → EReal} {d : ℕ} (hd : d < 11) {n : IVec S16384 32} (hn : Stands s d n) {l : FVec Ideal S16384 .f32}
    (hl : ∀ i, l (ix1 i) = s i (walk (s i) d)) (w : FVec Ideal S2047x2048 .f32) (i : Fin 16384) (o : Fin 2048) :
    share l w n (ix2 i o) = s i (walk (s i) d) * row (n := 2047) w (walk (s i) d) o := by
  pointwise [share]
  rw [take_apply hd hn, hl i]

end Cert.ReferenceIdeal.Value

end
-- ==== Proof.RefValue.lean ====
/- The reference's result: its eleven levels are one step taken eleven times, every input walks down the tree, and the shares of the levels add
   up to the network's result. -/
module

public import proofs.«01_k».proof.Proof.RefTake

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Tree

/-- The nodes the inputs stand on before level `d`, all at the root at first. -/
def nodes (x : FVec Ideal S16384x2048 .f32) (w : FVec Ideal S2047x2048 .f32) : ℕ → IVec S16384 32
  | 0 => broadcastInDim S16384 ![] bcast_S_S16384 (constantI S_ 32 0#32)
  | d + 1 => step (nodes x w d) (lam x w (nodes x w d))

/-- What the levels before `d` have added up to. -/
def total (x : FVec Ideal S16384x2048 .f32) (w1 w2 : FVec Ideal S2047x2048 .f32) : ℕ → FVec Ideal S16384x2048 .f32
  | 0 => broadcastInDim S16384x2048 ![] bcast_S_S16384x2048 (constant S_ .f32 0x00000000#32)
  | d + 1 => addf (total x w1 w2 d) (share (lam x w1 (nodes x w1 d)) w2 (nodes x w1 d))

/-- The program's result is the total of eleven levels. -/
theorem result_eq (V0 : Valuation τ sig (Elt Ideal)) : res_main_v158 V0 =
    total (V0 (Proc.devRef .tc main_arg0)) (V0 (Proc.devRef .tc main_arg1)) (V0 (Proc.devRef .tc main_arg2)) 11 := rfl

variable (x : FVec Ideal S16384x2048 .f32) (w1 w2 : FVec Ideal S2047x2048 .f32)

/-- The nodes are those of the walks. -/
theorem nodes_stands {d : ℕ} (hd : d < 11) : Stands (score x w1) d (nodes x w1 d) := by
  induction d with
  | zero => intro i; pointwise [nodes]; rfl
  | succ d ih => exact step_stands (by omega) (ih (by omega)) (lam_apply x w1 (by omega) (ih (by omega)))

/-- The total of the first levels, as a sum. -/
theorem total_apply {d : ℕ} (hd : d ≤ 11) (i : Fin 16384) (o : Fin 2048) : total x w1 w2 d (ix2 i o) =
    ∑ e ∈ Finset.range d, score x w1 i (walk (score x w1 i) e) * row w2 (walk (score x w1 i) e) o := by
  induction d with
  | zero => pointwise [total]; rw [Finset.sum_range_zero]
  | succ d ih =>
    have hn := nodes_stands x w1 (d := d) (by omega)
    rw [Finset.sum_range_succ, ← ih (by omega), ← share_apply (by omega) hn (lam_apply x w1 (by omega) hn) w2 i o]
    rfl

/-- The reference's result is the network's. -/
theorem total_eq : total x w1 w2 11 = fff x w1 w2 := by
  funext y
  obtain ⟨i, o, rfl⟩ : ∃ (i : Fin 16384) (o : Fin 2048), y = ix2 i o := ⟨y 0, y 1, eq_ix2 y⟩
  rw [total_apply x w1 w2 le_rfl, fff_ix2, Fin.sum_univ_eq_sum_range
    (fun e => score x w1 i (walk (score x w1 i) e) * row w2 (walk (score x w1 i) e) o) 11]

end Cert.ReferenceIdeal.Value

end
-- ==== Proof.lean ====
/- The five claims: the kernel as compiled, the kernel on ideal numbers and the reference each run to the end and leave their arguments as they
   were; the compiled kernel and the ideal one are the same program; and the ideal kernel and the reference leave the same array, both being the
   network of Network.lean on the arguments (KernelValue.lean, RefValue.lean). -/
module

public import proofs.«01_k».proof.Proof.KernelValue
public import proofs.«01_k».proof.Proof.RefValue
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The reference runs to the end and leaves its arguments as they were. -/
theorem frame_reference : Cert.quiescent_ReferenceIdeal := by
  intro m g _
  run_from Cert.ReferenceIdeal.Value.run m g
  · exact fun _ => ⟨trivial, trivial, trivial⟩
  · exact sem_eq_zero_of_no_sems (by decide) r.2

/-- From equal arguments the ideal kernel and the reference leave equal arrays. -/
theorem algebraic : Cert.algebraic_KernelIdeal_ReferenceIdeal := by
  pair_intro
  · run_from Cert.KernelIdeal.Value.run_blocks m g
  · run_from Cert.ReferenceIdeal.Value.run m' g'
    rw [Cert.KernelIdeal.Value.final, Cert.ReferenceIdeal.Value.result_eq, Cert.ReferenceIdeal.Value.total_eq]
    exact congr (congr (congrArg (Cert.Tree.fff (b := 16384) (n := 2047)) (hagree c).1) (hagree c).2.1) (hagree c).2.2

/-- The five claims. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, frame_reference, trivial, algebraic⟩

end Cert.Proof

end
